-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x2048 : Shape := ⟨2, ![1024, 2048]⟩
abbrev S2048x16384 : Shape := ⟨2, ![2048, 16384]⟩
abbrev S1024x1 : Shape := ⟨2, ![1024, 1]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S1024x2048 .f32) (main_arg1 : FVec F S2048x16384 .f32) (main_arg2 : IVec S1024x1 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 32768#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 1 := constantI S_ 1 1#1
  let main_v14 : IVec S_ 1 := (fun x v => Host.reduce IntOp.andi x v reducesTo_S1024x1_S_d0_1 h_S_) main_v13 main_c_4
  let main_v15 : IVec S_ 1 := andi main_v8 main_v14
  main_v15
-- ==== Pre_finite_and_in_range_ReferenceIdeal.lean ====
abbrev S1024x2048 : Shape := ⟨2, ![1024, 2048]⟩
abbrev S2048x32768 : Shape := ⟨2, ![2048, 32768]⟩
abbrev S1024x1 : Shape := ⟨2, ![1024, 1]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S1024x2048 .f32) (main_arg1 : FVec F S2048x32768 .f32) (main_arg2 : IVec S1024x1 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 32768#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 1 := constantI S_ 1 1#1
  let main_v14 : IVec S_ 1 := (fun x v => Host.reduce IntOp.andi x v reducesTo_S1024x1_S_d0_1 h_S_) main_v13 main_c_4
  let main_v15 : IVec S_ 1 := andi main_v8 main_v14
  main_v15
-- ==== Kernel.lean ====
abbrev S1024x2048 : Shape := ⟨2, ![1024, 2048]⟩
abbrev S2048x16384 : Shape := ⟨2, ![2048, 16384]⟩
abbrev S1024x1 : Shape := ⟨2, ![1024, 1]⟩
abbrev S2x2048x512 : Shape := ⟨3, ![2, 2048, 512]⟩
abbrev S1024x2 : Shape := ⟨2, ![1024, 2]⟩
abbrev S16x1024x2 : Shape := ⟨3, ![16, 1024, 2]⟩
abbrev S2 : Shape := ⟨1, ![2]⟩
abbrev S16 : Shape := ⟨1, ![16]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S1024x512 : Shape := ⟨2, ![1024, 512]⟩
abbrev S1024 : Shape := ⟨1, ![1024]⟩
abbrev S1x1024x2 : Shape := ⟨3, ![1, 1024, 2]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x1, .i32⟩
  | .hbm, ⟨3, _⟩ => ⟨S1024x1, .f32⟩
  | .local _ .vmem, ⟨0, _⟩ => ⟨S1024x2048, .f32⟩
  | .local _ .vmem, ⟨1, _⟩ => ⟨S1024x1, .i32⟩
  | .local _ .vmem, ⟨2, _⟩ => ⟨S1024x1, .f32⟩
  | .local _ .vmem, ⟨3, _⟩ => ⟨S1024x2048, .bf16⟩
  | .local _ .vmem, ⟨4, _⟩ => ⟨S2x2048x512, .f32⟩
  | .local _ .vmem, ⟨5, _⟩ => ⟨S1024x2, .bf16⟩
  | .local _ .vmem, ⟨6, _⟩ => ⟨S16x1024x2, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let c0_i32_11 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c2048_i32 : BitVec 32 := 2048#32
  let v13 : BitVec 32 := Scalar.muli v10 c2048_i32
  let v20 : BitVec 32 := Scalar.addi v13 c0_i32
  ![0, v20.toNat]
def k0_dev1 : Nat :=
  let c0_i32_105 : BitVec 32 := 0#32
  let c0_i32_101 : BitVec 32 := 0#32
  let c8_i32_104 : BitVec 32 := 8#32
  let v169 : BitVec 32 := Scalar.muli c0_i32_101 c8_i32_104
  let v170 : BitVec 32 := Scalar.addi c0_i32_105 v169
  let c0_i32_102 : BitVec 32 := 0#32
  let c4_i32_106 : BitVec 32 := 4#32
  let v171 : BitVec 32 := Scalar.muli c0_i32_102 c4_i32_106
  let v172 : BitVec 32 := Scalar.addi v170 v171
  let c0_i32_103 : BitVec 32 := 0#32
  let c1_i32_107 : BitVec 32 := 1#32
  let v173 : BitVec 32 := Scalar.muli c0_i32_103 c1_i32_107
  let v174 : BitVec 32 := Scalar.addi v172 v173
  v174.toNat
def k0_dev2 : Nat :=
  let c0_i32_113 : BitVec 32 := 0#32
  let c0_i32_109 : BitVec 32 := 0#32
  let c8_i32_112 : BitVec 32 := 8#32
  let v175 : BitVec 32 := Scalar.muli c0_i32_109 c8_i32_112
  let v176 : BitVec 32 := Scalar.addi c0_i32_113 v175
  let c0_i32_110 : BitVec 32 := 0#32
  let c4_i32_114 : BitVec 32 := 4#32
  let v177 : BitVec 32 := Scalar.muli c0_i32_110 c4_i32_114
  let v178 : BitVec 32 := Scalar.addi v176 v177
  let c1_i32_111 : BitVec 32 := 1#32
  let c1_i32_115 : BitVec 32 := 1#32
  let v179 : BitVec 32 := Scalar.muli c1_i32_111 c1_i32_115
  let v180 : BitVec 32 := Scalar.addi v178 v179
  v180.toNat
def k0_dev3 : Nat :=
  let c0_i32_121 : BitVec 32 := 0#32
  let c0_i32_117 : BitVec 32 := 0#32
  let c8_i32_120 : BitVec 32 := 8#32
  let v181 : BitVec 32 := Scalar.muli c0_i32_117 c8_i32_120
  let v182 : BitVec 32 := Scalar.addi c0_i32_121 v181
  let c0_i32_118 : BitVec 32 := 0#32
  let c4_i32_122 : BitVec 32 := 4#32
  let v183 : BitVec 32 := Scalar.muli c0_i32_118 c4_i32_122
  let v184 : BitVec 32 := Scalar.addi v182 v183
  let c2_i32_119 : BitVec 32 := 2#32
  let c1_i32_123 : BitVec 32 := 1#32
  let v185 : BitVec 32 := Scalar.muli c2_i32_119 c1_i32_123
  let v186 : BitVec 32 := Scalar.addi v184 v185
  v186.toNat
def k0_dev4 : Nat :=
  let c0_i32_128 : BitVec 32 := 0#32
  let c0_i32_125 : BitVec 32 := 0#32
  let c8_i32_127 : BitVec 32 := 8#32
  let v187 : BitVec 32 := Scalar.muli c0_i32_125 c8_i32_127
  let v188 : BitVec 32 := Scalar.addi c0_i32_128 v187
  let c0_i32_126 : BitVec 32 := 0#32
  let c4_i32_129 : BitVec 32 := 4#32
  let v189 : BitVec 32 := Scalar.muli c0_i32_126 c4_i32_129
  let v190 : BitVec 32 := Scalar.addi v188 v189
  let c3_i32 : BitVec 32 := 3#32
  let c1_i32_130 : BitVec 32 := 1#32
  let v191 : BitVec 32 := Scalar.muli c3_i32 c1_i32_130
  let v192 : BitVec 32 := Scalar.addi v190 v191
  v192.toNat
def k0_dev5 : Nat :=
  let c0_i32_136 : BitVec 32 := 0#32
  let c0_i32_132 : BitVec 32 := 0#32
  let c8_i32_135 : BitVec 32 := 8#32
  let v193 : BitVec 32 := Scalar.muli c0_i32_132 c8_i32_135
  let v194 : BitVec 32 := Scalar.addi c0_i32_136 v193
  let c1_i32_133 : BitVec 32 := 1#32
  let c4_i32_137 : BitVec 32 := 4#32
  let v195 : BitVec 32 := Scalar.muli c1_i32_133 c4_i32_137
  let v196 : BitVec 32 := Scalar.addi v194 v195
  let c0_i32_134 : BitVec 32 := 0#32
  let c1_i32_138 : BitVec 32 := 1#32
  let v197 : BitVec 32 := Scalar.muli c0_i32_134 c1_i32_138
  let v198 : BitVec 32 := Scalar.addi v196 v197
  v198.toNat
def k0_dev6 : Nat :=
  let c0_i32_144 : BitVec 32 := 0#32
  let c0_i32_140 : BitVec 32 := 0#32
  let c8_i32_143 : BitVec 32 := 8#32
  let v199 : BitVec 32 := Scalar.muli c0_i32_140 c8_i32_143
  let v200 : BitVec 32 := Scalar.addi c0_i32_144 v199
  let c1_i32_141 : BitVec 32 := 1#32
  let c4_i32_145 : BitVec 32 := 4#32
  let v201 : BitVec 32 := Scalar.muli c1_i32_141 c4_i32_145
  let v202 : BitVec 32 := Scalar.addi v200 v201
  let c1_i32_142 : BitVec 32 := 1#32
  let c1_i32_146 : BitVec 32 := 1#32
  let v203 : BitVec 32 := Scalar.muli c1_i32_142 c1_i32_146
  let v204 : BitVec 32 := Scalar.addi v202 v203
  v204.toNat
def k0_dev7 : Nat :=
  let c0_i32_152 : BitVec 32 := 0#32
  let c0_i32_148 : BitVec 32 := 0#32
  let c8_i32_151 : BitVec 32 := 8#32
  let v205 : BitVec 32 := Scalar.muli c0_i32_148 c8_i32_151
  let v206 : BitVec 32 := Scalar.addi c0_i32_152 v205
  let c1_i32_149 : BitVec 32 := 1#32
  let c4_i32_153 : BitVec 32 := 4#32
  let v207 : BitVec 32 := Scalar.muli c1_i32_149 c4_i32_153
  let v208 : BitVec 32 := Scalar.addi v206 v207
  let c2_i32_150 : BitVec 32 := 2#32
  let c1_i32_154 : BitVec 32 := 1#32
  let v209 : BitVec 32 := Scalar.muli c2_i32_150 c1_i32_154
  let v210 : BitVec 32 := Scalar.addi v208 v209
  v210.toNat
def k0_dev8 : Nat :=
  let c0_i32_160 : BitVec 32 := 0#32
  let c0_i32_156 : BitVec 32 := 0#32
  let c8_i32_159 : BitVec 32 := 8#32
  let v211 : BitVec 32 := Scalar.muli c0_i32_156 c8_i32_159
  let v212 : BitVec 32 := Scalar.addi c0_i32_160 v211
  let c1_i32_157 : BitVec 32 := 1#32
  let c4_i32_161 : BitVec 32 := 4#32
  let v213 : BitVec 32 := Scalar.muli c1_i32_157 c4_i32_161
  let v214 : BitVec 32 := Scalar.addi v212 v213
  let c3_i32_158 : BitVec 32 := 3#32
  let c1_i32_162 : BitVec 32 := 1#32
  let v215 : BitVec 32 := Scalar.muli c3_i32_158 c1_i32_162
  let v216 : BitVec 32 := Scalar.addi v214 v215
  v216.toNat
def k0_dev9 : Nat :=
  let c0_i32_168 : BitVec 32 := 0#32
  let c1_i32_164 : BitVec 32 := 1#32
  let c8_i32_167 : BitVec 32 := 8#32
  let v217 : BitVec 32 := Scalar.muli c1_i32_164 c8_i32_167
  let v218 : BitVec 32 := Scalar.addi c0_i32_168 v217
  let c0_i32_165 : BitVec 32 := 0#32
  let c4_i32_169 : BitVec 32 := 4#32
  let v219 : BitVec 32 := Scalar.muli c0_i32_165 c4_i32_169
  let v220 : BitVec 32 := Scalar.addi v218 v219
  let c0_i32_166 : BitVec 32 := 0#32
  let c1_i32_170 : BitVec 32 := 1#32
  let v221 : BitVec 32 := Scalar.muli c0_i32_166 c1_i32_170
  let v222 : BitVec 32 := Scalar.addi v220 v221
  v222.toNat
def k0_dev10 : Nat :=
  let c0_i32_176 : BitVec 32 := 0#32
  let c1_i32_172 : BitVec 32 := 1#32
  let c8_i32_175 : BitVec 32 := 8#32
  let v223 : BitVec 32 := Scalar.muli c1_i32_172 c8_i32_175
  let v224 : BitVec 32 := Scalar.addi c0_i32_176 v223
  let c0_i32_173 : BitVec 32 := 0#32
  let c4_i32_177 : BitVec 32 := 4#32
  let v225 : BitVec 32 := Scalar.muli c0_i32_173 c4_i32_177
  let v226 : BitVec 32 := Scalar.addi v224 v225
  let c1_i32_174 : BitVec 32 := 1#32
  let c1_i32_178 : BitVec 32 := 1#32
  let v227 : BitVec 32 := Scalar.muli c1_i32_174 c1_i32_178
  let v228 : BitVec 32 := Scalar.addi v226 v227
  v228.toNat
def k0_dev11 : Nat :=
  let c0_i32_184 : BitVec 32 := 0#32
  let c1_i32_180 : BitVec 32 := 1#32
  let c8_i32_183 : BitVec 32 := 8#32
  let v229 : BitVec 32 := Scalar.muli c1_i32_180 c8_i32_183
  let v230 : BitVec 32 := Scalar.addi c0_i32_184 v229
  let c0_i32_181 : BitVec 32 := 0#32
  let c4_i32_185 : BitVec 32 := 4#32
  let v231 : BitVec 32 := Scalar.muli c0_i32_181 c4_i32_185
  let v232 : BitVec 32 := Scalar.addi v230 v231
  let c2_i32_182 : BitVec 32 := 2#32
  let c1_i32_186 : BitVec 32 := 1#32
  let v233 : BitVec 32 := Scalar.muli c2_i32_182 c1_i32_186
  let v234 : BitVec 32 := Scalar.addi v232 v233
  v234.toNat
def k0_dev12 : Nat :=
  let c0_i32_192 : BitVec 32 := 0#32
  let c1_i32_188 : BitVec 32 := 1#32
  let c8_i32_191 : BitVec 32 := 8#32
  let v235 : BitVec 32 := Scalar.muli c1_i32_188 c8_i32_191
  let v236 : BitVec 32 := Scalar.addi c0_i32_192 v235
  let c0_i32_189 : BitVec 32 := 0#32
  let c4_i32_193 : BitVec 32 := 4#32
  let v237 : BitVec 32 := Scalar.muli c0_i32_189 c4_i32_193
  let v238 : BitVec 32 := Scalar.addi v236 v237
  let c3_i32_190 : BitVec 32 := 3#32
  let c1_i32_194 : BitVec 32 := 1#32
  let v239 : BitVec 32 := Scalar.muli c3_i32_190 c1_i32_194
  let v240 : BitVec 32 := Scalar.addi v238 v239
  v240.toNat
def k0_dev13 : Nat :=
  let c0_i32_200 : BitVec 32 := 0#32
  let c1_i32_196 : BitVec 32 := 1#32
  let c8_i32_199 : BitVec 32 := 8#32
  let v241 : BitVec 32 := Scalar.muli c1_i32_196 c8_i32_199
  let v242 : BitVec 32 := Scalar.addi c0_i32_200 v241
  let c1_i32_197 : BitVec 32 := 1#32
  let c4_i32_201 : BitVec 32 := 4#32
  let v243 : BitVec 32 := Scalar.muli c1_i32_197 c4_i32_201
  let v244 : BitVec 32 := Scalar.addi v242 v243
  let c0_i32_198 : BitVec 32 := 0#32
  let c1_i32_202 : BitVec 32 := 1#32
  let v245 : BitVec 32 := Scalar.muli c0_i32_198 c1_i32_202
  let v246 : BitVec 32 := Scalar.addi v244 v245
  v246.toNat
def k0_dev14 : Nat :=
  let c0_i32_208 : BitVec 32 := 0#32
  let c1_i32_204 : BitVec 32 := 1#32
  let c8_i32_207 : BitVec 32 := 8#32
  let v247 : BitVec 32 := Scalar.muli c1_i32_204 c8_i32_207
  let v248 : BitVec 32 := Scalar.addi c0_i32_208 v247
  let c1_i32_205 : BitVec 32 := 1#32
  let c4_i32_209 : BitVec 32 := 4#32
  let v249 : BitVec 32 := Scalar.muli c1_i32_205 c4_i32_209
  let v250 : BitVec 32 := Scalar.addi v248 v249
  let c1_i32_206 : BitVec 32 := 1#32
  let c1_i32_210 : BitVec 32 := 1#32
  let v251 : BitVec 32 := Scalar.muli c1_i32_206 c1_i32_210
  let v252 : BitVec 32 := Scalar.addi v250 v251
  v252.toNat
def k0_dev15 : Nat :=
  let c0_i32_216 : BitVec 32 := 0#32
  let c1_i32_212 : BitVec 32 := 1#32
  let c8_i32_215 : BitVec 32 := 8#32
  let v253 : BitVec 32 := Scalar.muli c1_i32_212 c8_i32_215
  let v254 : BitVec 32 := Scalar.addi c0_i32_216 v253
  let c1_i32_213 : BitVec 32 := 1#32
  let c4_i32_217 : BitVec 32 := 4#32
  let v255 : BitVec 32 := Scalar.muli c1_i32_213 c4_i32_217
  let v256 : BitVec 32 := Scalar.addi v254 v255
  let c2_i32_214 : BitVec 32 := 2#32
  let c1_i32_218 : BitVec 32 := 1#32
  let v257 : BitVec 32 := Scalar.muli c2_i32_214 c1_i32_218
  let v258 : BitVec 32 := Scalar.addi v256 v257
  v258.toNat
def k0_dev16 : Nat :=
  let c0_i32_224 : BitVec 32 := 0#32
  let c1_i32_220 : BitVec 32 := 1#32
  let c8_i32_223 : BitVec 32 := 8#32
  let v259 : BitVec 32 := Scalar.muli c1_i32_220 c8_i32_223
  let v260 : BitVec 32 := Scalar.addi c0_i32_224 v259
  let c1_i32_221 : BitVec 32 := 1#32
  let c4_i32_225 : BitVec 32 := 4#32
  let v261 : BitVec 32 := Scalar.muli c1_i32_221 c4_i32_225
  let v262 : BitVec 32 := Scalar.addi v260 v261
  let c3_i32_222 : BitVec 32 := 3#32
  let c1_i32_226 : BitVec 32 := 1#32
  let v263 : BitVec 32 := Scalar.muli c3_i32_222 c1_i32_226
  let v264 : BitVec 32 := Scalar.addi v262 v263
  v264.toNat
def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_227 : BitVec 32 := 0#32
  let c0_i32_228 : BitVec 32 := 0#32
  ![v12.toNat, 0, 0]
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_229 : BitVec 32 := 0#32
  let v269 : BitVec 1 := Scalar.cmpi .ne v12 c0_i32_229
  let v270 : BitVec 32 := Scalar.extui v269
  let c0_i32_230 : BitVec 32 := 0#32
  let v271 : BitVec 1 := Scalar.cmpi .ne v270 c0_i32_230
  v271

def k0_off4 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off5 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev17 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c0_i32_356 : BitVec 32 := 0#32
  let c1_i32_360 : BitVec 32 := 1#32
  let v441 : BitVec 32 := Scalar.muli c0_i32_356 c1_i32_360
  let v442 : BitVec 32 := Scalar.addi v440 v441
  v442.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c1_i32_231 : BitVec 32 := 1#32
  let v272 : BitVec 1 := Scalar.cmpi .ne v12 c1_i32_231
  let v273 : BitVec 32 := Scalar.extui v272
  let c0_i32_232 : BitVec 32 := 0#32
  let v274 : BitVec 1 := Scalar.cmpi .ne v273 c0_i32_232
  v274

def k0_off6 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off7 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev18 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c1_i32_356 : BitVec 32 := 1#32
  let c1_i32_360 : BitVec 32 := 1#32
  let v441 : BitVec 32 := Scalar.muli c1_i32_356 c1_i32_360
  let v442 : BitVec 32 := Scalar.addi v440 v441
  v442.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c2_i32_233 : BitVec 32 := 2#32
  let v275 : BitVec 1 := Scalar.cmpi .ne v12 c2_i32_233
  let v276 : BitVec 32 := Scalar.extui v275
  let c0_i32_234 : BitVec 32 := 0#32
  let v277 : BitVec 1 := Scalar.cmpi .ne v276 c0_i32_234
  v277

def k0_off8 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off9 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev19 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c2_i32_356 : BitVec 32 := 2#32
  let c1_i32_360 : BitVec 32 := 1#32
  let v441 : BitVec 32 := Scalar.muli c2_i32_356 c1_i32_360
  let v442 : BitVec 32 := Scalar.addi v440 v441
  v442.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c3_i32_235 : BitVec 32 := 3#32
  let v278 : BitVec 1 := Scalar.cmpi .ne v12 c3_i32_235
  let v279 : BitVec 32 := Scalar.extui v278
  let c0_i32_236 : BitVec 32 := 0#32
  let v280 : BitVec 1 := Scalar.cmpi .ne v279 c0_i32_236
  v280

def k0_off10 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off11 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev20 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c3_i32_356 : BitVec 32 := 3#32
  let c1_i32_360 : BitVec 32 := 1#32
  let v441 : BitVec 32 := Scalar.muli c3_i32_356 c1_i32_360
  let v442 : BitVec 32 := Scalar.addi v440 v441
  v442.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c4_i32_237 : BitVec 32 := 4#32
  let v281 : BitVec 1 := Scalar.cmpi .ne v12 c4_i32_237
  let v282 : BitVec 32 := Scalar.extui v281
  let c0_i32_238 : BitVec 32 := 0#32
  let v283 : BitVec 1 := Scalar.cmpi .ne v282 c0_i32_238
  v283

def k0_off12 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off13 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev21 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c0_i32_356 : BitVec 32 := 0#32
  let c1_i32_360 : BitVec 32 := 1#32
  let v441 : BitVec 32 := Scalar.muli c0_i32_356 c1_i32_360
  let v442 : BitVec 32 := Scalar.addi v440 v441
  v442.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c5_i32 : BitVec 32 := 5#32
  let v284 : BitVec 1 := Scalar.cmpi .ne v12 c5_i32
  let v285 : BitVec 32 := Scalar.extui v284
  let c0_i32_239 : BitVec 32 := 0#32
  let v286 : BitVec 1 := Scalar.cmpi .ne v285 c0_i32_239
  v286

def k0_off14 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off15 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev22 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c1_i32_356 : BitVec 32 := 1#32
  let c1_i32_360 : BitVec 32 := 1#32
  let v441 : BitVec 32 := Scalar.muli c1_i32_356 c1_i32_360
  let v442 : BitVec 32 := Scalar.addi v440 v441
  v442.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c6_i32 : BitVec 32 := 6#32
  let v287 : BitVec 1 := Scalar.cmpi .ne v12 c6_i32
  let v288 : BitVec 32 := Scalar.extui v287
  let c0_i32_240 : BitVec 32 := 0#32
  let v289 : BitVec 1 := Scalar.cmpi .ne v288 c0_i32_240
  v289

def k0_off16 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off17 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev23 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c2_i32_356 : BitVec 32 := 2#32
  let c1_i32_360 : BitVec 32 := 1#32
  let v441 : BitVec 32 := Scalar.muli c2_i32_356 c1_i32_360
  let v442 : BitVec 32 := Scalar.addi v440 v441
  v442.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c7_i32 : BitVec 32 := 7#32
  let v290 : BitVec 1 := Scalar.cmpi .ne v12 c7_i32
  let v291 : BitVec 32 := Scalar.extui v290
  let c0_i32_241 : BitVec 32 := 0#32
  let v292 : BitVec 1 := Scalar.cmpi .ne v291 c0_i32_241
  v292

def k0_off18 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off19 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev24 : Nat :=
  let c0_i32_358 : BitVec 32 := 0#32
  let c0_i32_354 : BitVec 32 := 0#32
  let c8_i32_357 : BitVec 32 := 8#32
  let v437 : BitVec 32 := Scalar.muli c0_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c3_i32_356 : BitVec 32 := 3#32
  let c1_i32_360 : BitVec 32 := 1#32
  let v441 : BitVec 32 := Scalar.muli c3_i32_356 c1_i32_360
  let v442 : BitVec 32 := Scalar.addi v440 v441
  v442.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c8_i32_242 : BitVec 32 := 8#32
  let v293 : BitVec 1 := Scalar.cmpi .ne v12 c8_i32_242
  let v294 : BitVec 32 := Scalar.extui v293
  let c0_i32_243 : BitVec 32 := 0#32
  let v295 : BitVec 1 := Scalar.cmpi .ne v294 c0_i32_243
  v295

def k0_off20 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off21 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev25 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c0_i32_356 : BitVec 32 := 0#32
  let c1_i32_360 : BitVec 32 := 1#32
  let v441 : BitVec 32 := Scalar.muli c0_i32_356 c1_i32_360
  let v442 : BitVec 32 := Scalar.addi v440 v441
  v442.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c9_i32 : BitVec 32 := 9#32
  let v296 : BitVec 1 := Scalar.cmpi .ne v12 c9_i32
  let v297 : BitVec 32 := Scalar.extui v296
  let c0_i32_244 : BitVec 32 := 0#32
  let v298 : BitVec 1 := Scalar.cmpi .ne v297 c0_i32_244
  v298

def k0_off22 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off23 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev26 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c1_i32_356 : BitVec 32 := 1#32
  let c1_i32_360 : BitVec 32 := 1#32
  let v441 : BitVec 32 := Scalar.muli c1_i32_356 c1_i32_360
  let v442 : BitVec 32 := Scalar.addi v440 v441
  v442.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c10_i32 : BitVec 32 := 10#32
  let v299 : BitVec 1 := Scalar.cmpi .ne v12 c10_i32
  let v300 : BitVec 32 := Scalar.extui v299
  let c0_i32_245 : BitVec 32 := 0#32
  let v301 : BitVec 1 := Scalar.cmpi .ne v300 c0_i32_245
  v301

def k0_off24 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off25 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev27 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c2_i32_356 : BitVec 32 := 2#32
  let c1_i32_360 : BitVec 32 := 1#32
  let v441 : BitVec 32 := Scalar.muli c2_i32_356 c1_i32_360
  let v442 : BitVec 32 := Scalar.addi v440 v441
  v442.toNat
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c11_i32 : BitVec 32 := 11#32
  let v302 : BitVec 1 := Scalar.cmpi .ne v12 c11_i32
  let v303 : BitVec 32 := Scalar.extui v302
  let c0_i32_246 : BitVec 32 := 0#32
  let v304 : BitVec 1 := Scalar.cmpi .ne v303 c0_i32_246
  v304

def k0_off26 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off27 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev28 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c0_i32_355 : BitVec 32 := 0#32
  let c4_i32_359 : BitVec 32 := 4#32
  let v439 : BitVec 32 := Scalar.muli c0_i32_355 c4_i32_359
  let v440 : BitVec 32 := Scalar.addi v438 v439
  let c3_i32_356 : BitVec 32 := 3#32
  let c1_i32_360 : BitVec 32 := 1#32
  let v441 : BitVec 32 := Scalar.muli c3_i32_356 c1_i32_360
  let v442 : BitVec 32 := Scalar.addi v440 v441
  v442.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c12_i32 : BitVec 32 := 12#32
  let v305 : BitVec 1 := Scalar.cmpi .ne v12 c12_i32
  let v306 : BitVec 32 := Scalar.extui v305
  let c0_i32_247 : BitVec 32 := 0#32
  let v307 : BitVec 1 := Scalar.cmpi .ne v306 c0_i32_247
  v307

def k0_off28 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off29 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev29 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c0_i32_356 : BitVec 32 := 0#32
  let c1_i32_360 : BitVec 32 := 1#32
  let v441 : BitVec 32 := Scalar.muli c0_i32_356 c1_i32_360
  let v442 : BitVec 32 := Scalar.addi v440 v441
  v442.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c13_i32 : BitVec 32 := 13#32
  let v308 : BitVec 1 := Scalar.cmpi .ne v12 c13_i32
  let v309 : BitVec 32 := Scalar.extui v308
  let c0_i32_248 : BitVec 32 := 0#32
  let v310 : BitVec 1 := Scalar.cmpi .ne v309 c0_i32_248
  v310

def k0_off30 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off31 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev30 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c1_i32_356 : BitVec 32 := 1#32
  let c1_i32_360 : BitVec 32 := 1#32
  let v441 : BitVec 32 := Scalar.muli c1_i32_356 c1_i32_360
  let v442 : BitVec 32 := Scalar.addi v440 v441
  v442.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c14_i32 : BitVec 32 := 14#32
  let v311 : BitVec 1 := Scalar.cmpi .ne v12 c14_i32
  let v312 : BitVec 32 := Scalar.extui v311
  let c0_i32_249 : BitVec 32 := 0#32
  let v313 : BitVec 1 := Scalar.cmpi .ne v312 c0_i32_249
  v313

def k0_off32 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off33 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev31 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c2_i32_356 : BitVec 32 := 2#32
  let c1_i32_360 : BitVec 32 := 1#32
  let v441 : BitVec 32 := Scalar.muli c2_i32_356 c1_i32_360
  let v442 : BitVec 32 := Scalar.addi v440 v441
  v442.toNat
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c15_i32 : BitVec 32 := 15#32
  let v314 : BitVec 1 := Scalar.cmpi .ne v12 c15_i32
  let v315 : BitVec 32 := Scalar.extui v314
  let c0_i32_250 : BitVec 32 := 0#32
  let v316 : BitVec 1 := Scalar.cmpi .ne v315 c0_i32_250
  v316

def k0_off34 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  ![v12.toNat]
def k0_off35 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_361 : BitVec 32 := 0#32
  let c0_i32_362 : BitVec 32 := 0#32
  ![v12.toNat, 0, 0]
def k0_dev32 : Nat :=
  let c0_i32_358 : BitVec 32 := 0#32
  let c1_i32_354 : BitVec 32 := 1#32
  let c8_i32_357 : BitVec 32 := 8#32
  let v437 : BitVec 32 := Scalar.muli c1_i32_354 c8_i32_357
  let v438 : BitVec 32 := Scalar.addi c0_i32_358 v437
  let c1_i32_355 : BitVec 32 := 1#32
  let c4_i32_359 : BitVec 32 := 4#32
  let v439 : BitVec 32 := Scalar.muli c1_i32_355 c4_i32_359
  let v440 : BitVec 32 := Scalar.addi v438 v439
  let c3_i32_356 : BitVec 32 := 3#32
  let c1_i32_360 : BitVec 32 := 1#32
  let v441 : BitVec 32 := Scalar.muli c3_i32_356 c1_i32_360
  let v442 : BitVec 32 := Scalar.addi v440 v441
  v442.toNat
def k0_cond17 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_315 : BitVec 32 := 0#32
  let v381 : BitVec 1 := Scalar.cmpi .ne v12 c0_i32_315
  let v382 : BitVec 32 := Scalar.extui v381
  let c0_i32_316 : BitVec 32 := 0#32
  let v383 : BitVec 1 := Scalar.cmpi .ne v382 c0_i32_316
  v383

def k0_off36 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c1_i32_317 : BitVec 32 := 1#32
  let v384 : BitVec 1 := Scalar.cmpi .ne v12 c1_i32_317
  let v385 : BitVec 32 := Scalar.extui v384
  let c0_i32_318 : BitVec 32 := 0#32
  let v386 : BitVec 1 := Scalar.cmpi .ne v385 c0_i32_318
  v386

def k0_off37 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond19 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c2_i32_319 : BitVec 32 := 2#32
  let v387 : BitVec 1 := Scalar.cmpi .ne v12 c2_i32_319
  let v388 : BitVec 32 := Scalar.extui v387
  let c0_i32_320 : BitVec 32 := 0#32
  let v389 : BitVec 1 := Scalar.cmpi .ne v388 c0_i32_320
  v389

def k0_off38 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond20 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c3_i32_321 : BitVec 32 := 3#32
  let v390 : BitVec 1 := Scalar.cmpi .ne v12 c3_i32_321
  let v391 : BitVec 32 := Scalar.extui v390
  let c0_i32_322 : BitVec 32 := 0#32
  let v392 : BitVec 1 := Scalar.cmpi .ne v391 c0_i32_322
  v392

def k0_off39 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond21 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c4_i32_323 : BitVec 32 := 4#32
  let v393 : BitVec 1 := Scalar.cmpi .ne v12 c4_i32_323
  let v394 : BitVec 32 := Scalar.extui v393
  let c0_i32_324 : BitVec 32 := 0#32
  let v395 : BitVec 1 := Scalar.cmpi .ne v394 c0_i32_324
  v395

def k0_off40 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond22 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c5_i32_325 : BitVec 32 := 5#32
  let v396 : BitVec 1 := Scalar.cmpi .ne v12 c5_i32_325
  let v397 : BitVec 32 := Scalar.extui v396
  let c0_i32_326 : BitVec 32 := 0#32
  let v398 : BitVec 1 := Scalar.cmpi .ne v397 c0_i32_326
  v398

def k0_off41 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond23 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c6_i32_327 : BitVec 32 := 6#32
  let v399 : BitVec 1 := Scalar.cmpi .ne v12 c6_i32_327
  let v400 : BitVec 32 := Scalar.extui v399
  let c0_i32_328 : BitVec 32 := 0#32
  let v401 : BitVec 1 := Scalar.cmpi .ne v400 c0_i32_328
  v401

def k0_off42 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond24 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c7_i32_329 : BitVec 32 := 7#32
  let v402 : BitVec 1 := Scalar.cmpi .ne v12 c7_i32_329
  let v403 : BitVec 32 := Scalar.extui v402
  let c0_i32_330 : BitVec 32 := 0#32
  let v404 : BitVec 1 := Scalar.cmpi .ne v403 c0_i32_330
  v404

def k0_off43 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c8_i32_331 : BitVec 32 := 8#32
  let v405 : BitVec 1 := Scalar.cmpi .ne v12 c8_i32_331
  let v406 : BitVec 32 := Scalar.extui v405
  let c0_i32_332 : BitVec 32 := 0#32
  let v407 : BitVec 1 := Scalar.cmpi .ne v406 c0_i32_332
  v407

def k0_off44 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c9_i32_333 : BitVec 32 := 9#32
  let v408 : BitVec 1 := Scalar.cmpi .ne v12 c9_i32_333
  let v409 : BitVec 32 := Scalar.extui v408
  let c0_i32_334 : BitVec 32 := 0#32
  let v410 : BitVec 1 := Scalar.cmpi .ne v409 c0_i32_334
  v410

def k0_off45 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c10_i32_335 : BitVec 32 := 10#32
  let v411 : BitVec 1 := Scalar.cmpi .ne v12 c10_i32_335
  let v412 : BitVec 32 := Scalar.extui v411
  let c0_i32_336 : BitVec 32 := 0#32
  let v413 : BitVec 1 := Scalar.cmpi .ne v412 c0_i32_336
  v413

def k0_off46 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c11_i32_337 : BitVec 32 := 11#32
  let v414 : BitVec 1 := Scalar.cmpi .ne v12 c11_i32_337
  let v415 : BitVec 32 := Scalar.extui v414
  let c0_i32_338 : BitVec 32 := 0#32
  let v416 : BitVec 1 := Scalar.cmpi .ne v415 c0_i32_338
  v416

def k0_off47 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c12_i32_339 : BitVec 32 := 12#32
  let v417 : BitVec 1 := Scalar.cmpi .ne v12 c12_i32_339
  let v418 : BitVec 32 := Scalar.extui v417
  let c0_i32_340 : BitVec 32 := 0#32
  let v419 : BitVec 1 := Scalar.cmpi .ne v418 c0_i32_340
  v419

def k0_off48 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c13_i32_341 : BitVec 32 := 13#32
  let v420 : BitVec 1 := Scalar.cmpi .ne v12 c13_i32_341
  let v421 : BitVec 32 := Scalar.extui v420
  let c0_i32_342 : BitVec 32 := 0#32
  let v422 : BitVec 1 := Scalar.cmpi .ne v421 c0_i32_342
  v422

def k0_off49 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c14_i32_343 : BitVec 32 := 14#32
  let v423 : BitVec 1 := Scalar.cmpi .ne v12 c14_i32_343
  let v424 : BitVec 32 := Scalar.extui v423
  let c0_i32_344 : BitVec 32 := 0#32
  let v425 : BitVec 1 := Scalar.cmpi .ne v424 c0_i32_344
  v425

def k0_off50 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c15_i32_345 : BitVec 32 := 15#32
  let v426 : BitVec 1 := Scalar.cmpi .ne v12 c15_i32_345
  let v427 : BitVec 32 := Scalar.extui v426
  let c0_i32_346 : BitVec 32 := 0#32
  let v428 : BitVec 1 := Scalar.cmpi .ne v427 c0_i32_346
  v428

def k0_off51 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3 : BitVec 32 := 8#32
  let v11 : BitVec 32 := Scalar.muli v2 c8_i32_3
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v12 : BitVec 32 := Scalar.addi v11 v10
  let c0_i32_358 : BitVec 32 := 0#32
  let c0_i32_359 : BitVec 32 := 0#32
  ![v12.toNat, 0, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x1 : Shape := ⟨2, ![1024, 1]⟩
abbrev S1024 : Shape := ⟨1, ![1024]⟩
abbrev S1024x32768 : Shape := ⟨2, ![1024, 32768]⟩
abbrev S_ : Shape := ⟨0, ![]⟩
abbrev S1024x2 : Shape := ⟨2, ![1024, 2]⟩

abbrev nBuf : Space → Nat
  | .hbm => 38
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x1, .i32⟩
  | .hbm, ⟨3, _⟩ => ⟨S1024, .i32⟩
  | .hbm, ⟨4, _⟩ => ⟨S1024x32768, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32768, .f32⟩
  | .hbm, ⟨9, _⟩ => ⟨S1024x32768, .f32⟩
  | .hbm, ⟨10, _⟩ => ⟨S1024x32768, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024, .f32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1, .i32⟩
  | .hbm, ⟨34, _⟩ => ⟨S1024x2, .i32⟩
  | .hbm, ⟨35, _⟩ => ⟨S1024, .f32⟩
  | .hbm, ⟨36, _⟩ => ⟨S1024, .f32⟩
  | .hbm, ⟨37, _⟩ => ⟨S1024x1, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.KernelIdealProtocol.lean ====
/-
# The exchange protocol of the sharded cross-entropy kernel

Sixteen devices; each computes a pair of partial columns (the sum of the exponentials and the label's logit over its own
part of the vocabulary), copies the pair into row `c` of every device's table, and reduces the table once all sixteen
rows are there. Before the first copy every device signals every device's barrier semaphore and waits for all sixteen
signals on its own.

The protocol in the rounds library, duty names `Dev nD`:
* a barrier cell of device `c` has one duty of one unit per device `d`; the signal of `d` hands over row `c` of `d`'s table;
* receive cell `s` of device `c` has one duty: row `s` of `c`'s table now holds the pair of device `s`
  (for `s = c`, the device's own local copy, with the share of the pair it read);
* send cell `p` of device `c`, `p ≠ c`, has one duty: the share of the pair read by the copy to `p`;
* the two staging cells of the weight have two duties each, one a round: the slot holding the next block, and the share of
  the weight the copy read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

/-- The exchange's own part of the ghost state: rounds over the cells, duties named by devices. -/
abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Buffers and cells -/

abbrev xM : Memref sig .tc .vmem S1024x2048 .f32 := Memref.whole cc0_stg0_0
abbrev labM : Memref sig .tc .vmem S1024x1 .i32 := Memref.whole cc0_stg1_0
abbrev outM : Memref sig .tc .vmem S1024x1 .f32 := Memref.whole cc0_stg2_0
abbrev xbM : Memref sig .tc .vmem S1024x2048 .bf16 := Memref.whole cc0_scratch0
abbrev wbM : Memref sig .tc .vmem S2x2048x512 .f32 := Memref.whole cc0_scratch1
abbrev accM : Memref sig .tc .vmem S1024x2 .bf16 := Memref.whole cc0_scratch2
abbrev commM : Memref sig .tc .vmem S16x1024x2 .bf16 := Memref.whole cc0_scratch3
abbrev wM : Memref sig .tc .hbm S2048x16384 .f32 := Memref.whole main_arg1

theorem row_inb (s : Dev nD) : ∀ a, (![s.val, 0, 0] : Fin 3 → Nat) a + S1x1024x2.size a ≤ S16x1024x2.size a := by
  revert s; decide
theorem half_inb (s : Fin 2) : ∀ a, (![s.val, 0, 0] : Fin 3 → Nat) a + S1x2048x512.size a ≤ S2x2048x512.size a := by
  revert s; decide

/-- Row `s` of the table, as a rectangle and as the buffer a copy lands in. -/
abbrev rowR (s : Dev nD) : Rect S16x1024x2 := Rect.unit (s := S16x1024x2) ![s.val, 0, 0] S1x1024x2.size (row_inb s)
abbrev rowM (s : Dev nD) : Memref sig .tc .vmem S1024x2 .bf16 :=
  (commM.slice (rowR s) (fun _ => rfl)).squeeze S1024x2 squeezes_S1x1024x2_S1024x2
/-- Slot `s` of the weight's staging buffer, likewise. -/
abbrev halfR (s : Fin 2) : Rect S2x2048x512 := Rect.unit (s := S2x2048x512) ![s.val, 0, 0] S1x2048x512.size (half_inb s)
abbrev halfM (s : Fin 2) : Memref sig .tc .vmem S2048x512 .f32 :=
  (wbM.slice (halfR s) (fun _ => rfl)).squeeze S2048x512 squeezes_S1x2048x512_S2048x512
/-- Block `b` of the device's columns of the weight. -/
abbrev blkM (c : Dev nD) (b : Fin 4) : Memref sig .tc .hbm S2048x512 .f32 :=
  wM.slice (Rect.unit (s := S2048x16384) (k0_off1 c (BitVec.ofNat 32 (512 * b.val))) S2048x512.size (k0_off1_inb c b)) (fun _ => rfl)

abbrev barS : Sem sig := (SemArray.scalar (sig.barrier 0 rfl) : Sems sig S_).sem
abbrev copyS (s : Fin 2) : DmaSem sig := ⟨3 + s.val, by show _ < 37; omega⟩
abbrev sendS (p : Dev nD) : DmaSem sig := ⟨5 + p.val, by have : p.val < 16 := p.isLt; show _ < 37; omega⟩
abbrev recvS (s : Dev nD) : DmaSem sig := ⟨21 + s.val, by have : s.val < 16 := s.isLt; show _ < 37; omega⟩

abbrev barCell (c : Dev nD) : GSem nD τ sig := ((c : Thread nD τ), .reg barS)
abbrev copyCell (c : Dev nD) (s : Fin 2) : GSem nD τ sig := ((c : Thread nD τ), .dma (copyS s))
abbrev sendCell (c p : Dev nD) : GSem nD τ sig := ((c : Thread nD τ), .dma (sendS p))
abbrev recvCell (c s : Dev nD) : GSem nD τ sig := ((c : Thread nD τ), .dma (recvS s))

/-- The kernel's own semaphores as the launch theorem indexes them, and with the barrier's beside them. -/
abbrev osem : Fin 34 → SemLoc sig := fun k => .dma ⟨3 + k.val, by show _ < 37; omega⟩
abbrev csem : Fin 34 ⊕ Unit → SemLoc sig := Sum.elim osem fun _ => .reg barS
abbrev kcell (ck : Dev nD × (Fin 34 ⊕ Unit)) : GSem nD τ sig := ((ck.1 : Thread nD τ), csem ck.2)

abbrev NW : ℕ := (halfM 0).view.dmaCredit
abbrev NC : ℕ := accM.view.dmaCredit
theorem NW_pos : 0 < NW := View.dmaCredit_pos _ (by decide)
theorem NC_pos : 0 < NC := View.dmaCredit_pos _ (by decide)

/-! ## Contents -/

/-- The device's copy of `x` and of the labels, as the pipeline stages them. -/
def xv (c : Dev nD) : (cc0_stg0_0 : Ref sig .tc).ty.Contents (Elt F) :=
  (win0_0.blk (0 : Fin 1)).view.read (Elt F) ((s₀ m ρ).mem ((c : Thread nD τ).loc main_arg0))
def labv (c : Dev nD) : (cc0_stg1_0 : Ref sig .tc).ty.Contents (Elt F) :=
  (win0_1.blk (0 : Fin 1)).view.read (Elt F) ((s₀ m ρ).mem ((c : Thread nD τ).loc main_arg2))
/-- The device's part of the weight, and its block `b` as the kernel loads it from a slot. -/
def wv (c : Dev nD) : Buf (Elt F) ((c : Thread nD τ).loc main_arg1) := m ((c : Thread nD τ).loc main_arg1)
def wblk (c : Dev nD) (b : Fin 4) : S2048x512.Idx → Elt F .f32 := (blkM c b).view.read (Elt F) (wv m c)
def wld (c : Dev nD) (b : Fin 4) : Vec F S1x2048x512 .f32 :=
  fun i => wblk m c b ((Shape.reshapeEquiv squeezes_S1x2048x512_S2048x512.numel_eq).symm i)

/-- The words the kernel computes its columns from: the device's coordinate along `x`, its first column in its block. -/
def xw (c : Dev nD) : BitVec 32 := Scalar.remsi (Scalar.divsi (Dev.word c) 8#32) 2#32
def colw (c : Dev nD) : BitVec 32 :=
  Scalar.muli (Scalar.addi (Scalar.muli (Scalar.remsi (Scalar.divsi (Dev.word c) 4#32) 2#32) 4#32)
    (Scalar.remsi (Scalar.divsi (Dev.word c) 1#32) 4#32)) 2048#32

def xb (c : Dev nD) : Vec F S1024x2048 .bf16 := k0_pay2 (xv m ρ c)
def lab (c : Dev nD) : IVec S1024x1 32 := k0_pay3 (F := F) (labv m ρ c)
def sum1 (c : Dev nD) : FVec F S1024x1 .f32 := k0_pay7 k0_pay4 (wld m c 0) (xb m ρ c)
def lbl1 (c : Dev nD) : FVec F S1024x1 .f32 := k0_pay8 (xw c) (colw c) (lab m ρ c) k0_pay5 (wld m c 0) (xb m ρ c)
def sum2 (c : Dev nD) : FVec F S1024x1 .f32 := k0_pay10 (sum1 m ρ c) (wld m c 1) (xb m ρ c)
def lbl2 (c : Dev nD) : FVec F S1024x1 .f32 := k0_pay11 (xw c) (colw c) (lab m ρ c) (lbl1 m ρ c) (wld m c 1) (xb m ρ c)
def sum3 (c : Dev nD) : FVec F S1024x1 .f32 := k0_pay13 (sum2 m ρ c) (wld m c 2) (xb m ρ c)
def lbl3 (c : Dev nD) : FVec F S1024x1 .f32 := k0_pay14 (xw c) (colw c) (lab m ρ c) (lbl2 m ρ c) (wld m c 2) (xb m ρ c)
def sum4 (c : Dev nD) : FVec F S1024x1 .bf16 := k0_pay16 (sum3 m ρ c) (wld m c 3) (xb m ρ c)
def lbl4 (c : Dev nD) : FVec F S1024x1 .bf16 := k0_pay17 (xw c) (colw c) (lab m ρ c) (lbl3 m ρ c) (wld m c 3) (xb m ρ c)

/-- The pair of device `c`: column 0 the sums, column 1 the labels' logits. -/
def accv (c : Dev nD) : (cc0_scratch2 : Ref sig .tc).ty.Contents (Elt F) :=
  fun i : S1024x2.Idx => if (i 1).val = 0 then sum4 m ρ c (ix2 (n0 := 1024) (n1 := 1) (i 0) 0) else lbl4 m ρ c (ix2 (n0 := 1024) (n1 := 1) (i 0) 0)

/-- The table once every row has landed: the same on every device. -/
def commv : (cc0_scratch3 : Ref sig .tc).ty.Contents (Elt F) :=
  fun i : S16x1024x2.Idx => accv m ρ (i 0) (ix2 (n0 := 1024) (n1 := 2) (i 1) (i 2))

/-- What every device stores as the result. -/
def outv : (cc0_stg2_0 : Ref sig .tc).ty.Contents (Elt F) := k0_pay1 (k0_pay18 (commv m ρ))

/-! ## Points-tos -/

def rowPts (c s : Dev nD) (f : Buf (Elt F) ((rowM s).view.loc (c : Thread nD τ))) : sProp 𝕄 :=
  (rowM s).view.loc (c : Thread nD τ) ↦[(rowM s).view.set]{fullShare} f
def halfPts (c : Dev nD) (s : Fin 2) (f : Buf (Elt F) ((halfM s).view.loc (c : Thread nD τ))) : sProp 𝕄 :=
  (halfM s).view.loc (c : Thread nD τ) ↦[(halfM s).view.set]{fullShare} f
def accPts (c : Dev nD) (q : PosShare TreeShare) : sProp 𝕄 :=
  accM.view.loc (c : Thread nD τ) ↦[accM.view.set]{q} accv m ρ c
/-- The share of the weight that slot `s`'s copies read. -/
def wsh (s : Fin 2) : PosShare TreeShare := if s = 0 then fullShare.left else fullShare.right
def wPts (c : Dev nD) (b : Fin 4) (q : PosShare TreeShare) : sProp 𝕄 :=
  (blkM c b).view.loc (c : Thread nD τ) ↦[(blkM c b).view.set]{q} wv m c
/-- The share of the pair that the copy to `p` reads: one of sixteen. -/
def leafSh (p : Dev nD) : PosShare TreeShare := ShareLeaves.leaf 4 fullShare ⟨p.val, p.isLt⟩

instance rowPts_storable (c s : Dev nD) (f) : BI.Storable (upEmb : UEmb _ 𝕄) (rowPts (F := F) c s f) := by unfold rowPts; infer_instance
instance halfPts_storable (c : Dev nD) (s) (f) : BI.Storable (upEmb : UEmb _ 𝕄) (halfPts (F := F) c s f) := by unfold halfPts; infer_instance
instance accPts_storable (c : Dev nD) (q) : BI.Storable (upEmb : UEmb _ 𝕄) (accPts m ρ c q) := by unfold accPts; infer_instance
instance wPts_storable (c : Dev nD) (b q) : BI.Storable (upEmb : UEmb _ 𝕄) (wPts m c b q) := by unfold wPts; infer_instance

/-! ## The schedule -/

/-- The block that slot `s` holds in round `r`. -/
def blkOf (s : Fin 2) (r : ℕ) : Fin 4 := ⟨2 * (r % 2) + s.val, by omega⟩

def barPay (c d : Dev nD) : sProp 𝕄 := iprop(∃ f, rowPts d c f)
def copyPay (c : Dev nD) (s : Fin 2) (r : ℕ) : sProp 𝕄 :=
  iprop((∃ f, ⌜wbM.view.readAt (Elt F) (halfR s).toLoadRect f = wld m c (blkOf s r)⌝ ∗ halfPts c s f) ∗ wPts m c (blkOf s r) (wsh s))
def sendPay (c p : Dev nD) : sProp 𝕄 := accPts m ρ c (leafSh p)
def recvPay (c s : Dev nD) : sProp 𝕄 := iprop(rowPts c s (commv m ρ) ∗ if s = c then accPts m ρ c (leafSh c) else emp)

/-- The one duty of a cell with a single payer. -/
abbrev d₀ : Dev nD := ⟨0, by decide⟩

def xRd : Rounds.Schedule (GSem nD τ sig) (Dev nD) 𝕄 where
  duties g r := match g.2 with
    | .reg _ => if r = 0 then Finset.univ else ∅
    | .dma q => if q.val < 3 then ∅ else if q.val < 5 then (if r < 2 then {d₀} else ∅)
        else if q.val < 21 then (if r = 0 ∧ q.val ≠ 5 + g.1.1.val then {d₀} else ∅) else if r = 0 then {d₀} else ∅
  unitless _ := False
  amount g _ _ := match g.2 with
    | .reg _ => 1
    | .dma q => if q.val < 5 then NW else NC
  payload g r d := match g.2 with
    | .reg _ => barPay g.1.1 d
    | .dma q => if q.val < 5 then copyPay m g.1.1 ⟨(q.val - 3) % 2, Nat.mod_lt _ (by decide)⟩ r
        else if q.val < 21 then sendPay m ρ g.1.1 ⟨(q.val - 5) % 16, Nat.mod_lt _ (by decide)⟩
        else recvPay m ρ g.1.1 ⟨(q.val - 21) % 16, Nat.mod_lt _ (by decide)⟩
  amount_pos g _ _ _ := by
    dsimp only
    split
    · exact Nat.one_pos
    · split
      · exact NW_pos
      · exact NC_pos

instance xRd_payload_storable (g : GSem nD τ sig) (r : ℕ) (d : Dev nD) :
    BI.Storable (upEmb : UEmb _ 𝕄) ((xRd (F := F) m ρ).payload g r d) := by
  dsimp only [xRd]
  unfold barPay copyPay sendPay recvPay
  (repeat' split) <;> infer_instance

section Sched
variable (c s p : Dev nD) (u : Fin 2) (r : ℕ) (d : Dev nD)

theorem duties_bar : (xRd (F := F) m ρ).duties (barCell c) 0 = Finset.univ := rfl
theorem duties_copy (hr : r < 2) : (xRd (F := F) m ρ).duties (copyCell c u) r = {d₀} := by
  dsimp only [xRd]; rw [if_neg (by omega), if_pos (by omega), if_pos hr]
theorem duties_send (h : p ≠ c) : (xRd (F := F) m ρ).duties (sendCell c p) 0 = {d₀} := by
  have := p.isLt
  dsimp only [xRd]
  rw [if_neg (by omega), if_neg (by omega), if_pos (by change p.val < 16 at this; omega),
    if_pos ⟨rfl, fun e => h (Fin.ext (by simpa using e))⟩]
theorem duties_recv : (xRd (F := F) m ρ).duties (recvCell c s) 0 = {d₀} := by
  dsimp only [xRd]; rw [if_neg (by omega), if_neg (by omega), if_neg (by omega), if_pos rfl]

/-- Past its last round a cell has no duty. -/
theorem duties_bar_later : ∀ r, 1 ≤ r → (xRd (F := F) m ρ).duties (barCell c) r = ∅ := fun r hr => by
  dsimp only [xRd]; rw [if_neg (by omega)]
theorem duties_copy_later : ∀ r, 2 ≤ r → (xRd (F := F) m ρ).duties (copyCell c u) r = ∅ := fun r hr => by
  dsimp only [xRd]; rw [if_neg (by omega), if_pos (by omega), if_neg (by omega)]
theorem duties_send_later : ∀ r, 1 ≤ r → (xRd (F := F) m ρ).duties (sendCell c p) r = ∅ := fun r hr => by
  have := p.isLt
  dsimp only [xRd]
  rw [if_neg (by omega), if_neg (by omega), if_pos (by change p.val < 16 at this; omega), if_neg (by omega)]
theorem duties_send_self : ∀ r, 0 ≤ r → (xRd (F := F) m ρ).duties (sendCell c c) r = ∅ := fun r _ => by
  have := c.isLt
  dsimp only [xRd]
  rw [if_neg (by omega), if_neg (by omega), if_pos (by change c.val < 16 at this; omega), if_neg (fun h => h.2 rfl)]
theorem duties_recv_later : ∀ r, 1 ≤ r → (xRd (F := F) m ρ).duties (recvCell c s) r = ∅ := fun r hr => by
  dsimp only [xRd]; rw [if_neg (by omega), if_neg (by omega), if_neg (by omega), if_neg (by omega)]

theorem amount_bar : (xRd (F := F) m ρ).amount (barCell c) r d = 1 := rfl
theorem amount_copy : (xRd (F := F) m ρ).amount (copyCell c u) r d = NW := by dsimp only [xRd]; exact if_pos (by omega)
theorem amount_send : (xRd (F := F) m ρ).amount (sendCell c p) r d = NC := by dsimp only [xRd]; exact if_neg (by omega)
theorem amount_recv : (xRd (F := F) m ρ).amount (recvCell c s) r d = NC := by dsimp only [xRd]; exact if_neg (by omega)

theorem expect_bar : (xRd (F := F) m ρ).expect (barCell c) 0 = 16 := by
  unfold Schedule.expect Schedule.amountOf
  rw [duties_bar, Finset.sum_congr rfl fun d _ => amount_bar m ρ c 0 d, Finset.sum_const, Finset.card_univ, smul_eq_mul, mul_one]
  rfl
theorem expect_copy (hr : r < 2) : (xRd (F := F) m ρ).expect (copyCell c u) r = NW := by
  unfold Schedule.expect Schedule.amountOf; rw [duties_copy m ρ c u r hr, Finset.sum_singleton, amount_copy]
theorem expect_send (h : p ≠ c) : (xRd (F := F) m ρ).expect (sendCell c p) 0 = NC := by
  unfold Schedule.expect Schedule.amountOf; rw [duties_send m ρ c p h, Finset.sum_singleton, amount_send]
theorem expect_recv : (xRd (F := F) m ρ).expect (recvCell c s) 0 = NC := by
  unfold Schedule.expect Schedule.amountOf; rw [duties_recv, Finset.sum_singleton, amount_recv]

theorem payload_bar : (xRd (F := F) m ρ).payload (barCell c) 0 d = barPay c d := rfl
theorem payload_copy : (xRd (F := F) m ρ).payload (copyCell c u) r d = copyPay m c u r := by
  dsimp only [xRd]; rw [if_pos (by omega)]; congr 1; exact Fin.ext (by show (3 + u.val - 3) % 2 = u.val; omega)
theorem payload_send : (xRd (F := F) m ρ).payload (sendCell c p) r d = sendPay m ρ c p := by
  have h : p.val < 16 := p.isLt
  dsimp only [xRd]; rw [if_neg (by omega), if_pos (by omega)]; congr 1; exact Fin.ext (by show (5 + p.val - 5) % 16 = p.val; omega)
theorem payload_recv : (xRd (F := F) m ρ).payload (recvCell c s) r d = recvPay m ρ c s := by
  have h : s.val < 16 := s.isLt
  dsimp only [xRd]; rw [if_neg (by omega), if_neg (by omega)]; congr 1; exact Fin.ext (by show (21 + s.val - 21) % 16 = s.val; omega)

theorem rest_bar : bigSep ((xRd (F := F) m ρ).duties (barCell c) 0 \ ∅) (fun d => (xRd (F := F) m ρ).payload (barCell c) 0 d)
    = bigSep Finset.univ fun d => barPay c d := by
  rw [Finset.sdiff_empty, duties_bar]; rfl
theorem rest_copy (hr : r < 2) : bigSep ((xRd (F := F) m ρ).duties (copyCell c u) r \ ∅) (fun d => (xRd (F := F) m ρ).payload (copyCell c u) r d)
    = copyPay m c u r := by
  rw [Finset.sdiff_empty, duties_copy m ρ c u r hr, bigSep_singleton, payload_copy]
theorem rest_send (h : p ≠ c) : bigSep ((xRd (F := F) m ρ).duties (sendCell c p) 0 \ ∅) (fun d => (xRd (F := F) m ρ).payload (sendCell c p) 0 d)
    = sendPay m ρ c p := by
  rw [Finset.sdiff_empty, duties_send m ρ c p h, bigSep_singleton, payload_send]
theorem rest_recv : bigSep ((xRd (F := F) m ρ).duties (recvCell c s) 0 \ ∅) (fun d => (xRd (F := F) m ρ).payload (recvCell c s) 0 d)
    = recvPay m ρ c s := by
  rw [Finset.sdiff_empty, duties_recv, bigSep_singleton, payload_recv]

end Sched

/-! ## Counting over the devices -/

/-- The devices from number `k` on, and the ones before it. -/
def above (k : ℕ) : Finset (Dev nD) := Finset.univ.filter fun p => k ≤ p.val
def below (k : ℕ) : Finset (Dev nD) := Finset.univ.filter fun p => p.val < k

theorem above_zero : above 0 = Finset.univ := by decide
theorem above_end : above 16 = ∅ := by decide
theorem below_zero : below 0 = ∅ := by decide
theorem below_end : below 16 = Finset.univ := by decide
theorem above_step (p : Dev nD) : above p.val = insert p (above (p.val + 1)) := by revert p; decide
theorem below_step (p : Dev nD) : below (p.val + 1) = insert p (below p.val) := by revert p; decide
theorem notMem_above (p : Dev nD) : p ∉ above (p.val + 1) := by revert p; decide
theorem notMem_below (p : Dev nD) : p ∉ below p.val := by revert p; decide

/-! ## What a device owes; the levels -/

/-- The receive credits owed to the devices of `S` other than `c` itself; a unit owed to each barrier of `S`. -/
def owR (c : Dev nD) (S : Finset (Dev nD)) : CellTallies nD τ sig Unit :=
  ∑ p ∈ S, if p = c then 0 else tallyAt (recvCell p c) () NC
def owB (S : Finset (Dev nD)) : CellTallies nD τ sig Unit := ∑ p ∈ S, tallyAt (barCell p) () 1
def O₀ (c : Dev nD) : CellTallies nD τ sig Unit := owR c Finset.univ + owB Finset.univ

theorem owR_step (c p : Dev nD) : owR c (above p.val) = owR c (above (p.val + 1)) + if p = c then 0 else tallyAt (recvCell p c) () NC := by
  unfold owR; rw [above_step, Finset.sum_insert (notMem_above p), add_comm]
theorem owB_step (p : Dev nD) : owB (above p.val) = owB (above (p.val + 1)) + tallyAt (barCell p) () 1 := by
  unfold owB; rw [above_step, Finset.sum_insert (notMem_above p), add_comm]
theorem owR_end (c : Dev nD) : owR c (above 16) = 0 := by unfold owR; rw [above_end, Finset.sum_empty]
theorem owB_end : owB (above 16) = 0 := by unfold owB; rw [above_end, Finset.sum_empty]

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if q.val < 21 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) (u : Unit) : lv (recvCell c s) u = 2 := by dsimp only [lv]; exact if_neg (by omega)

theorem owR_pos {c : Dev nD} {S : Finset (Dev nD)} {g : GSem nD τ sig} {u : Unit} (h : 0 < owR c S g u) : ∃ p, g = recvCell p c := by
  by_contra hn
  rw [not_exists] at hn
  refine absurd h (Nat.not_lt.mpr (Nat.le_zero.mpr ?_))
  unfold owR
  rw [Finset.sum_apply, Finsupp.finset_sum_apply]
  refine Finset.sum_eq_zero fun p _ => ?_
  split
  · rfl
  · rw [tallyAt_apply, if_neg fun h => hn p h.1]
theorem owB_pos {S : Finset (Dev nD)} {g : GSem nD τ sig} {u : Unit} (h : 0 < owB S g u) : ∃ p, g = barCell p := by
  by_contra hn
  rw [not_exists] at hn
  refine absurd h (Nat.not_lt.mpr (Nat.le_zero.mpr ?_))
  unfold owB
  rw [Finset.sum_apply, Finsupp.finset_sum_apply]
  refine Finset.sum_eq_zero fun p _ => ?_
  rw [tallyAt_apply, if_neg fun h => hn p h.1]

theorem O₀_pos {c : Dev nD} {g : GSem nD τ sig} {u : Unit} (h : 0 < O₀ c g u) : (∃ p, g = recvCell p c) ∨ ∃ p, g = barCell p := by
  unfold O₀ at h
  rw [Pi.add_apply, Finsupp.add_apply] at h
  rcases Nat.eq_zero_or_pos (owR c Finset.univ g u) with h0 | h0
  · rw [h0, Nat.zero_add] at h; exact Or.inr (owB_pos h)
  · exact Or.inl (owR_pos h0)

/-- A wait on a staging cell, owing all or nothing. -/
theorem mayWait_stage (c : Dev nD) (q : DmaSem sig) (hq : q.val < 21) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by rw [Finset.mem_singleton.mp hp]; dsimp only [lv]; rw [if_pos hq])
      (fun g u hg => by
        rcases O₀_pos hg with ⟨p, rfl⟩ | ⟨p, rfl⟩
        · rw [lv_recv]; decide
        · exact Nat.one_pos)
  · rw [MayWait_zero]; iintro -; iempintro

/-- The barrier wait, owing receive credits only. -/
theorem mayWait_bar (c : Dev nD) (S : Finset (Dev nD)) :
    (levAts L lv : sProp 𝕄) ⊢ MayWait (c : Thread nD τ) (.reg barS) () (owR c S) :=
  MayOwe.of_cut (L := L) (lev := lv) 1 (fun p hp => by rw [Finset.mem_singleton.mp hp, L_tc]; exact Finset.mem_singleton_self _)
    (fun g u hg => by obtain ⟨p, rfl⟩ := owR_pos hg; exact Finset.mem_singleton_self _)
    (fun p hp => by rw [Finset.mem_singleton.mp hp]; exact le_refl _)
    (fun g u hg => by obtain ⟨p, rfl⟩ := owR_pos hg; rw [lv_recv]; decide)

/-! ## The cells' records -/

/-- Every cell's invariant and that its round 0 is reached. -/
def records (K : Dev nD × (Fin 34 ⊕ Unit) → ℕ) : sProp 𝕄 :=
  iprop((bigSep Finset.univ fun ck : Dev nD × (Fin 34 ⊕ Unit) => cellInv ER (xRd m ρ) (K ck) (kcell ck))
    ∗ bigSep Finset.univ fun ck : Dev nD × (Fin 34 ⊕ Unit) => reached ER (kcell ck) 0)

instance records_persistent (K : Dev nD × (Fin 34 ⊕ Unit) → ℕ) : BI.Persistent (records m ρ K) := by unfold records; infer_instance

variable (K : Dev nD × (Fin 34 ⊕ Unit) → ℕ)

theorem records_at (ck : Dev nD × (Fin 34 ⊕ Unit)) :
    records m ρ K ⊢ iprop(cellInv ER (xRd m ρ) (K ck) (kcell ck) ∗ reached ER (kcell ck) 0) :=
  BIClass.sep_mono (bigSep_elim (Finset.mem_univ ck)) (bigSep_elim (Finset.mem_univ ck))

abbrev iCopy (s : Fin 2) : Fin 34 ⊕ Unit := .inl ⟨s.val, by omega⟩
abbrev iSend (p : Dev nD) : Fin 34 ⊕ Unit := .inl ⟨2 + p.val, by have : p.val < 16 := p.isLt; omega⟩
abbrev iRecv (s : Dev nD) : Fin 34 ⊕ Unit := .inl ⟨18 + s.val, by have : s.val < 16 := s.isLt; omega⟩
abbrev iBar : Fin 34 ⊕ Unit := .inr ()

theorem kcell_send (c p : Dev nD) : kcell (c, iSend p) = sendCell c p :=
  Prod.ext rfl (congrArg SemLoc.dma (Fin.ext (by show 3 + (2 + p.val) = 5 + p.val; omega)))
theorem kcell_recv (c s : Dev nD) : kcell (c, iRecv s) = recvCell c s :=
  Prod.ext rfl (congrArg SemLoc.dma (Fin.ext (by show 3 + (18 + s.val) = 21 + s.val; omega)))

theorem rec_bar (c : Dev nD) : records m ρ K ⊢ iprop(cellInv ER (xRd m ρ) (K (c, iBar)) (barCell c) ∗ reached ER (barCell c) 0) :=
  records_at m ρ K (c, iBar)
theorem rec_copy (c : Dev nD) (s : Fin 2) :
    records m ρ K ⊢ iprop(cellInv ER (xRd m ρ) (K (c, iCopy s)) (copyCell c s) ∗ reached ER (copyCell c s) 0) :=
  records_at m ρ K (c, iCopy s)
theorem rec_send (c p : Dev nD) :
    records m ρ K ⊢ iprop(cellInv ER (xRd m ρ) (K (c, iSend p)) (sendCell c p) ∗ reached ER (sendCell c p) 0) := by
  rw [← kcell_send]; exact records_at m ρ K (c, iSend p)
theorem rec_recv (c s : Dev nD) :
    records m ρ K ⊢ iprop(cellInv ER (xRd m ρ) (K (c, iRecv s)) (recvCell c s) ∗ reached ER (recvCell c s) 0) := by
  rw [← kcell_recv]; exact records_at m ρ K (c, iRecv s)

end Cert.KernelIdealProof

end
-- ==== Proof.KernelIdealMem.lean ====
/-
# Buffers of the exchange: rows of the table, slots of the weight's staging buffer, shares of the weight and of the pair
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows of the table -/

theorem mem_row {s : Dev nD} {i : S16x1024x2.Idx} : i ∈ (rowM s).view.set ↔ (i 0).val = s.val := by
  have e : (rowM s).view.set = (rowR s).set := (View.set_reshape _ _).trans (View.set_slice_whole _ _)
  rw [e, Rect.mem_set_unit]
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => have : (i 1).val < 1024 := (i 1).isLt; show 0 ≤ (i 1).val ∧ (i 1).val < 0 + 1024; omega
    | ⟨2, _⟩ => have : (i 2).val < 2 := (i 2).isLt; show 0 ≤ (i 2).val ∧ (i 2).val < 0 + 2; omega

theorem rows_disjoint {s t : Dev nD} (h : s ≠ t) : Disjoint (rowM s).view.set (rowM t).view.set :=
  Finset.disjoint_left.mpr fun i hi hj => h (Fin.ext ((mem_row.mp hi).symm.trans (mem_row.mp hj)))

/-- Row `s`'s positions. -/
abbrev rowSet (s : Dev nD) : Finset S16x1024x2.Idx := (rowM s).view.set

theorem rows_cover : Finset.univ.biUnion rowSet = Finset.univ :=
  Finset.eq_univ_of_forall fun i => Finset.mem_biUnion.mpr ⟨(⟨(i 0).val, (i 0).isLt⟩ : Dev nD), Finset.mem_univ _, mem_row.mpr rfl⟩

/-- The whole table is its sixteen rows. -/
theorem comm_rows (c : Dev nD) (f : Buf (Elt F) ((c : Thread nD τ).loc cc0_scratch3)) :
    (((c : Thread nD τ).loc cc0_scratch3) ↦{fullShare} f : sProp 𝕄) = bigSep Finset.univ fun s : Dev nD => rowPts c s f := by
  have h := pointsTo_biUnion (ℓ := (c : Thread nD τ).loc cc0_scratch3) (q := fullShare) (f := f) (Ix := Unit) (Val := Elt F) (Name := ℕ) (U := UU) (Lvl := ℕ) Finset.univ rowSet
    fun s _ t _ h => rows_disjoint h
  rw [rows_cover] at h
  exact h

theorem ix2_eta {a b : ℕ} (j : (⟨2, ![a, b]⟩ : Shape).Idx) : ix2 (j 0) (j 1) = j :=
  funext fun k => match k with | ⟨0, _⟩ => rfl | ⟨1, _⟩ => rfl

/-- Where position `(t, j)` of row `s` lies in the table. -/
theorem row_emb (s : Dev nD) (t : Fin 1024) (j : Fin 2) :
    (rowM s).view.emb (ix2 t j) = (ix3 (n0 := 16) ⟨s.val, s.isLt⟩ t j : S16x1024x2.Idx) := by
  show (rowR s).emb (Shape.reshapeEquiv _ (ix2 t j)) = _
  rw [reshapeEquiv_ix2_1ab]
  refine funext fun a => Fin.ext ?_
  match a with
  | ⟨0, _⟩ => show s.val + 1 * 0 = s.val; omega
  | ⟨1, _⟩ => show 0 + 1 * t.val = t.val; omega
  | ⟨2, _⟩ => show 0 + 1 * j.val = j.val; omega

/-- Device `s`'s pair copied into row `s`: the final table's row. -/
theorem row_landed (c s : Dev nD) (fd : Buf (Elt F) ((rowM s).view.loc (c : Thread nD τ))) :
    ((rowM s).view.loc (c : Thread nD τ) ↦[(rowM s).view.set]{fullShare}
        ((rowM s).view.write (Elt F) fd (accM.view.read (Elt F) (accv m ρ s)) Finset.univ) : sProp 𝕄) = rowPts c s (commv m ρ) := by
  unfold rowPts
  refine pointsTo_congr fun i hi => ?_
  obtain ⟨j, -, rfl⟩ := Finset.mem_map.mp hi
  obtain ⟨t, b, rfl⟩ : ∃ (t : Fin 1024) (b : Fin 2), j = ix2 t b := ⟨j 0, j 1, (ix2_eta j).symm⟩
  refine (View.write_emb_of_mem _ _ (Finset.mem_univ _)).trans ?_
  exact congrArg (commv m ρ) (row_emb s t b).symm

/-! ## Slots of the weight's staging buffer -/

theorem mem_half {s : Fin 2} {i : S2x2048x512.Idx} : i ∈ (halfM s).view.set ↔ (i 0).val = s.val := by
  have e : (halfM s).view.set = (halfR s).set := (View.set_reshape _ _).trans (View.set_slice_whole _ _)
  rw [e, Rect.mem_set_unit]
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => have : (i 1).val < 2048 := (i 1).isLt; show 0 ≤ (i 1).val ∧ (i 1).val < 0 + 2048; omega
    | ⟨2, _⟩ => have : (i 2).val < 512 := (i 2).isLt; show 0 ≤ (i 2).val ∧ (i 2).val < 0 + 512; omega

theorem halves_disjoint : Disjoint (halfM 0).view.set (halfM 1).view.set :=
  Finset.disjoint_left.mpr fun i hi hj => absurd ((mem_half.mp hi).symm.trans (mem_half.mp hj)) (by decide)

theorem halves_cover : (halfM 0).view.set ∪ (halfM 1).view.set = (Finset.univ : Finset S2x2048x512.Idx) :=
  Finset.eq_univ_of_forall fun i => Finset.mem_union.mpr (by
    have h : (i 0).val < 2 := (i 0).isLt
    rcases Nat.lt_or_ge (i 0).val 1 with h0 | h0
    · exact Or.inl (mem_half.mpr (by show (i 0).val = 0; omega))
    · exact Or.inr (mem_half.mpr (by show (i 0).val = 1; omega)))

theorem halves_split (c : Dev nD) (f : Buf (Elt F) ((c : Thread nD τ).loc cc0_scratch1)) :
    (((c : Thread nD τ).loc cc0_scratch1) ↦{fullShare} f : sProp 𝕄) ⊢ iprop(halfPts c 0 f ∗ halfPts c 1 f) := by
  unfold halfPts
  rw [← halves_cover]
  exact (pointsTo_union halves_disjoint).1

theorem halves_join (c : Dev nD) (f g : Buf (Elt F) ((c : Thread nD τ).loc cc0_scratch1)) :
    iprop(halfPts c 0 f ∗ halfPts c 1 g) ⊢ (∃ f, ((c : Thread nD τ).loc cc0_scratch1) ↦{fullShare} f : sProp 𝕄) := by
  unfold halfPts
  iintro H
  ihave H' := (pointsTo_join halves_disjoint) $$ H
  iexists _
  rw [← halves_cover]
  iexact H'

/-- A block copied into slot `s` reads back, through the slot's rectangle, as that block. -/
theorem half_landed (s : Fin 2) (fd : (cc0_scratch1 : Ref sig .tc).ty.Contents (Elt F)) (w : S2048x512.Idx → Elt F .f32) :
    wbM.view.readAt (Elt F) (halfR s).toLoadRect ((halfM s).view.write (Elt F) fd w Finset.univ)
      = fun i => w ((Shape.reshapeEquiv squeezes_S1x2048x512_S2048x512.numel_eq).symm i) := by
  funext i
  obtain ⟨j, rfl⟩ := (Shape.reshapeEquiv squeezes_S1x2048x512_S2048x512.numel_eq).surjective i
  rw [Equiv.symm_apply_apply]
  exact View.write_emb_of_mem (v := (halfM s).view) (Val := Elt F) fd w (Finset.mem_univ j)

/-! ## Shares of the weight -/

theorem blk_subset (c : Dev nD) (b : Fin 4) : (blkM c b).view.set ⊆ (Finset.univ : Finset S2048x16384.Idx) := Finset.subset_univ _

/-- What is left of slot `s`'s share of the weight while a copy reads block `b`. -/
def wRest (c : Dev nD) (b : Fin 4) (q : PosShare TreeShare) : sProp 𝕄 :=
  ((c : Thread nD τ).loc main_arg1) ↦[Finset.univ \ (blkM c b).view.set]{q} wv m c

theorem w_carve (c : Dev nD) (b : Fin 4) (q : PosShare TreeShare) :
    (((c : Thread nD τ).loc main_arg1) ↦{q} wv m c : sProp 𝕄) ⊣⊢ iprop(wPts m c b q ∗ wRest m c b q) := by
  unfold wPts wRest
  exact pointsTo_split_subset (blk_subset c b)

theorem w_halves (c : Dev nD) :
    (((c : Thread nD τ).loc main_arg1) ↦{fullShare} wv m c : sProp 𝕄)
      ⊣⊢ iprop((((c : Thread nD τ).loc main_arg1) ↦{wsh 0} wv m c) ∗ ((c : Thread nD τ).loc main_arg1) ↦{wsh 1} wv m c) := by
  rw [show wsh 0 = fullShare.left from rfl, show wsh 1 = fullShare.right from rfl]
  exact pointsTo_share (PosShare.mem_left_op_right fullShare)

/-! ## The pair -/

theorem acc_leaves (c : Dev nD) : (accPts m ρ c fullShare : sProp 𝕄) = bigSep Finset.univ fun p : Dev nD => accPts m ρ c (leafSh p) := by
  unfold accPts leafSh
  exact ShareLeaves.pointsTo_leaves _ _ 4 fullShare

theorem acc_set : (accM : Memref sig .tc .vmem S1024x2 .bf16).view.set = Finset.univ := View.set_whole _

abbrev colR0 : Rect S1024x2 := Rect.unit (s := S1024x2) ![0, 0] S1024x1.size inb_S1024x2_S1024x1_0_0
abbrev colR1 : Rect S1024x2 := Rect.unit (s := S1024x2) ![0, 1] S1024x1.size inb_S1024x2_S1024x1_0_1

/-- The two stores cover the pair. -/
theorem acc_stored (c : Dev nD) (f : (cc0_scratch2 : Ref sig .tc).ty.Contents (Elt F)) :
    (accM.access colR1 : View sig .tc _ _ _).write (Elt F)
        ((accM.access colR0 : View sig .tc _ _ _).write (Elt F) f (sum4 m ρ c) Finset.univ) (lbl4 m ρ c) Finset.univ = accv m ρ c := by
  funext i
  have h1 : (i 1).val < 2 := (i 1).isLt
  have e0 : (accM.access colR0 : View sig .tc _ _ _).emb (ix2 (n0 := 1024) (n1 := 1) (i 0) 0) = (ix2 (i 0) (0 : Fin 2) : S1024x2.Idx) := by
    refine funext fun a => Fin.ext ?_
    match a with
    | ⟨0, _⟩ => show 0 + 1 * (i 0).val = (i 0).val; omega
    | ⟨1, _⟩ => rfl
  have e1 : (accM.access colR1 : View sig .tc _ _ _).emb (ix2 (n0 := 1024) (n1 := 1) (i 0) 0) = (ix2 (i 0) (1 : Fin 2) : S1024x2.Idx) := by
    refine funext fun a => Fin.ext ?_
    match a with
    | ⟨0, _⟩ => show 0 + 1 * (i 0).val = (i 0).val; omega
    | ⟨1, _⟩ => rfl
  rcases Nat.eq_zero_or_pos (i 1).val with h | h
  · have hi : i = (ix2 (i 0) (0 : Fin 2) : S1024x2.Idx) := by
      conv_lhs => rw [← ix2_eta i]
      rw [show i 1 = (0 : Fin 2) from Fin.ext h]
      rfl
    have hn : i ∉ (accM.access colR1 : View sig .tc _ _ _).setOn Finset.univ := by
      rw [View.setOn_univ]
      show i ∉ ((View.whole cc0_scratch2).slice colR1).set
      rw [View.set_slice_whole, Rect.mem_set_unit]
      intro hh
      have : 1 ≤ (i 1).val := (hh 1).1
      omega
    refine (View.write_of_not_mem _ _ _ hn).trans ?_
    unfold accv
    rw [if_pos h]
    conv_lhs => rw [hi, ← e0]
    exact View.write_emb_of_mem _ _ (Finset.mem_univ _)
  · have hi : i = (ix2 (i 0) (1 : Fin 2) : S1024x2.Idx) := by
      conv_lhs => rw [← ix2_eta i]
      rw [show i 1 = (1 : Fin 2) from Fin.ext (by show (i 1).val = 1; omega)]
      rfl
    unfold accv
    rw [if_neg (by omega)]
    conv_lhs => rw [hi, ← e1]
    exact View.write_emb_of_mem _ _ (Finset.mem_univ _)

end Cert.KernelIdealProof

end
-- ==== Proof.KernelIdealSteps.lean ====
/-
# The exchange's steps: one rule per kind of effect, each carrying a whole phase's resources
A phase runs over the devices in order. Its resources are those still to be used, for the devices from number `k` on,
and those already obtained, for the devices before; a step moves one device across.
-/
module

public import proofs.«01_k».proof.Proof.KernelIdealMem

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

/-- A device's program. -/
abbrev PR (F : FTy → Type) (α : Type) := Prog (TpuEff nD τ sig (Elt F) Λ₀ .tc) α

abbrev 𝒱₀ : Variants := Variants.none

variable (m : (ℓ : Loc nD τ sig) → Buf (Elt F) ℓ) (ρ : Dev nD → PrngReg)
variable (K : Dev nD × (Fin 34 ⊕ Unit) → ℕ)
variable {α : Type} (c : Dev nD)

/-- What a device owes, whatever it has waited for. -/
def owesSome (O : CellTallies nD τ sig Unit) : sProp 𝕄 := iprop(∃ W, owes (c : Thread nD τ) O W)

/-! ## A family over the devices, one device moved across -/

theorem above_take (Φ : Dev nD → sProp 𝕄) (p : Dev nD) :
    bigSep (above p.val) Φ = iprop(Φ p ∗ bigSep (above (p.val + 1)) Φ) := by
  rw [above_step, bigSep_insert (notMem_above p)]; rfl
theorem below_put (Φ : Dev nD → sProp 𝕄) (p : Dev nD) :
    bigSep (below (p.val + 1)) Φ = iprop(Φ p ∗ bigSep (below p.val) Φ) := by
  rw [below_step, bigSep_insert (notMem_below p)]; rfl

/-! ## The handshake -/

def sigSt (k : ℕ) : sProp 𝕄 :=
  iprop(owesSome c (owR c Finset.univ + owB (above k))
    ∗ bigSep (above k) fun p => iprop(dutyTok ER (barCell p) 0 c ∗ ∃ f, rowPts c p f))

theorem wp_sig (p : Dev nD) {i j : ℕ} (hi : i = p.val) (hj : j = p.val + 1) {n : Dev nD} (hn : n = p) {w : ℤ} (hw : w = 1)
    {sm : Sem sig} (hsm : sm = barS) {k : PUnit.{1} → PR F α} {Q : α → sProp 𝕄} :
    iprop(records m ρ K ∗ sigSt c i)
      ⊢ iprop((sigSt c j -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) sm w) k) Q) := by
  subst hi hj hn hw hsm
  unfold sigSt owesSome
  iintro ⟨#HR, ⟨⟨%W, Ho⟩, HS⟩⟩ Hk
  ihave HS' := (Entails.of_eq (above_take _ n)) $$ HS
  icases HS' with ⟨⟨Htok, Hrow⟩, HS⟩
  ihave Hr := (rec_bar m ρ K n) $$ HR
  icases Hr with ⟨#HI, #Hreach⟩
  iapply (Rounds.wp_signal 𝒱₀ ER (xRd m ρ) (c : Thread nD τ) none (dst := (n : Thread nD τ)) (κ := K (n, iBar)) (r := 0) (k' := 1)
      (d := c) (by rw [duties_bar]; exact Finset.mem_univ _) (amount_bar m ρ n 0 c) () (owR c Finset.univ + owB (above (n.val + 1)))
      (show owR c Finset.univ + owB (above n.val) = _ by rw [owB_step, add_assoc])) $$ [Ho Htok Hrow]
  · isplitr; · iexact HI
    isplitl [Ho]; · iexact Ho
    isplitl [Htok]; · iexact Htok
    isplitl [Hrow]; · rw [payload_bar]; unfold barPay; iexact Hrow
    iexact Hreach
  iintro Ho
  iapply Hk
  isplitl [Ho]; · iexists W; iexact Ho
  iexact HS

theorem wp_bar {w : ℤ} (hw : w = 16) {sm : Sem sig} (hsm : sm = barS) {k : PUnit.{1} → PR F α} {Q : α → sProp 𝕄} :
    iprop(records m ρ K ∗ sigSt c 16 ∗ cred (tallyAt (barCell c) () 16) ∗ atPos ER (barCell c) 0 ∅ 0 ∗ levAts L lv)
      ⊢ iprop(((owesSome c (owR c Finset.univ) ∗ semVal (barCell c) 0 ∗ bigSep Finset.univ fun d => barPay (F := F) c d) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm w) k) Q) := by
  subst hw hsm
  unfold sigSt
  rw [owB_end, add_zero]
  unfold owesSome
  iintro ⟨#HR, ⟨⟨%W, Ho⟩, -⟩, Hc, Hat, #Hlev⟩ Hk
  ihave Hr := (rec_bar m ρ K c) $$ HR
  icases Hr with ⟨#HI, #Hreach⟩
  iapply (Rounds.wp_wait_rest_token 𝒱₀ ER (xRd m ρ) (c : Thread nD τ) none (κ := K (c, iBar)) (k' := 16)
      (wpE_semWait_eq 𝒱₀ (c : Thread nD τ) none Set.univ) (Set.mem_univ _) () (O := owR c Finset.univ) (W := W) (R := 0) (m := 0) (T := ∅)
      (by rw [expect_bar])) $$ [Hc Ho Hat]
  · isplitr; · iexact HI
    isplitl [Hc]; · iexact Hc
    isplitl [Ho]; · iexact Ho
    isplitr; · iapply (mayWait_bar c Finset.univ); iexact Hlev
    iexact Hat
  iintro ⟨Ho, Hat, -, Hpay⟩
  imod (Rounds.cell_close ER (xRd m ρ) (Set.mem_univ (K (c, iBar))) (fun h => h) (R := 0 + 1) (duties_bar_later m ρ c)) $$ [Hat] with Hz
  · isplitr; · iexact HI
    iexact Hat
  iapply Hk
  isplitl [Ho]; · iexists _; iexact Ho
  isplitl [Hz]; · iexact Hz
  ihave Hp := (Entails.of_eq (rest_bar m ρ c)) $$ Hpay
  iexact Hp

/-! ## The weight's blocks -/

/-- While a copy of block `blkOf s r` into slot `s` is under way. -/
def copying (s : Fin 2) (r : ℕ) : sProp 𝕄 :=
  iprop(cred (tallyAt (copyCell c s) () NW) ∗ wRest m c (blkOf s r) (wsh s))

def wShare (s : Fin 2) : sProp 𝕄 := ((c : Thread nD τ).loc main_arg1) ↦{wsh s} wv m c

/-- What a wait for slot `s` leaves: the slot holds its block. -/
def slotAt (s : Fin 2) (r : ℕ) : sProp 𝕄 :=
  iprop(∃ f, ⌜wbM.view.readAt (Elt F) (halfR s).toLoadRect f = wld m c (blkOf s r)⌝ ∗ halfPts c s f)

theorem wp_wcopy (s : Fin 2) (r : ℕ) (hr : r < 2) {src : Memref sig .tc .hbm S2048x512 .f32} (hsrc : src = blkM c (blkOf s r))
    {dst : Memref sig .tc .vmem S2048x512 .f32} (hdst : dst = halfM s) {q : DmaSem sig} (hq : q = copyS s)
    {h1 : src.view.WordExact} {h2 : dst.view.WordExact} {h3 : DmaTarget.Typed (nD := nD) (.hbm : Space) (.dma q) (DmaTarget.here (p := .tc) dst)}
    {k : PUnit.{1} → PR F α} {Q : α → sProp 𝕄} :
    iprop(records m ρ K ∗ wShare m c s ∗ (∃ f, halfPts c s f) ∗ dutyTok ER (copyCell c s) r d₀ ∗ reached ER (copyCell c s) r)
      ⊢ iprop((copying m c s r -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma q) h1 h2 h3) k) Q) := by
  subst hsrc hdst hq
  unfold wShare copying
  iintro ⟨#HR, Hw, ⟨%f, Hs⟩, Htok, Hreach⟩ Hk
  ihave Hr := (rec_copy m ρ K c s) $$ HR
  icases Hr with ⟨#HI, -⟩
  ihave Hw' := (w_carve m c (blkOf s r) (wsh s)).1 $$ Hw
  icases Hw' with ⟨Hw, Hrest⟩
  unfold wPts halfPts
  iapply (Rounds.wp_copy_pointsTo 𝒱₀ ER (xRd m ρ) (c : Thread nD τ) none (κ := K (c, iCopy s)) (r := r) (d := d₀) (fd := f)
      (by rw [duties_copy m ρ c s r hr]; exact Finset.mem_singleton_self _) () NW rfl (amount_copy m ρ c s r d₀)
      (by
        rw [payload_copy]
        unfold copyPay wPts halfPts
        iintro ⟨Hd, Hs⟩
        isplitl [Hd]
        · iexists _
          isplitr
          · ipureintro; exact half_landed s f (wblk m c (blkOf s r))
          · iexact Hd
        · iexact Hs)) $$ [Hw Hs Htok Hreach]
  · isplitr; · iexact HI
    isplitl [Hw]; · iexact Hw
    isplitl [Hs]; · iexact Hs
    isplitl [Htok]; · iexact Htok
    iexact Hreach
  iintro Hc
  iapply Hk
  isplitl [Hc]; · iexact Hc
  iexact Hrest

theorem wp_wwait (s : Fin 2) (r r' : ℕ) (hr : r < 2) (hr' : r' = r + 1) {src : Memref sig .tc .hbm S2048x512 .f32}
    {dst : Memref sig .tc .vmem S2048x512 .f32} (hdst : dst = halfM s) {q : DmaSem sig} (hq : q = copyS s)
    {h1 : src.view.WordExact} {h2 : dst.view.WordExact}
    {k : PUnit.{1} → PR F α} {Q : α → sProp 𝕄} :
    iprop(records m ρ K ∗ copying m c s r ∗ owesSome c (O₀ c) ∗ atPos ER (copyCell c s) r ∅ 0 ∗ levAts L lv)
      ⊢ iprop(((owesSome c (O₀ c) ∗ atPos ER (copyCell c s) r' ∅ 0 ∗ reached ER (copyCell c s) r' ∗ wShare m c s ∗ slotAt m c s r)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hdst hq hr'
  unfold copying owesSome
  iintro ⟨#HR, ⟨Hc, Hrest⟩, ⟨%W, Ho⟩, Hat, #Hlev⟩ Hk
  ihave Hr := (rec_copy m ρ K c s) $$ HR
  icases Hr with ⟨#HI, -⟩
  iapply (Rounds.wp_wait_rest_token 𝒱₀ ER (xRd m ρ) (c : Thread nD τ) none (κ := K (c, iCopy s))
      (wpE_waitDma2_eq 𝒱₀ (c : Thread nD τ) none Set.univ) (Set.mem_univ _) () (O := O₀ c) (W := W) (R := r) (m := 0) (T := ∅)
      (by rw [Nat.zero_add, expect_copy m ρ c s r hr])) $$ [Hc Ho Hat]
  · isplitr; · iexact HI
    isplitl [Hc]; · iexact Hc
    isplitl [Ho]; · iexact Ho
    isplitr; · iapply (mayWait_stage c (copyS s) (by show 3 + s.val < 21; omega) _ (Or.inl rfl)); iexact Hlev
    iexact Hat
  iintro ⟨Ho, Hat, Hreach, Hpay⟩
  ihave Hp := (Entails.of_eq (rest_copy m ρ c s r hr)) $$ Hpay
  unfold copyPay
  icases Hp with ⟨Hs, Hw⟩
  iapply Hk
  isplitl [Ho]; · iexists _; iexact Ho
  isplitl [Hat]; · iexact Hat
  isplitl [Hreach]; · iexact Hreach
  isplitl [Hw Hrest]
  · unfold wShare
    iapply (w_carve m c (blkOf s r) (wsh s)).2
    isplitl [Hw]; · iexact Hw
    iexact Hrest
  unfold slotAt
  iexact Hs

/-! ## The device's own row -/

theorem wp_own {dst : Memref sig .tc .vmem S1024x2 .bf16} (hdst : dst = rowM c) {q : DmaSem sig} (hq : q = recvS c)
    {h1 : (accM : Memref sig .tc .vmem S1024x2 .bf16).view.WordExact} {h2 : dst.view.WordExact}
    {h3 : DmaTarget.Typed (nD := nD) (.vmem : Space) (.dma q) (DmaTarget.here (p := .tc) dst)}
    {k : PUnit.{1} → PR F α} {Q : α → sProp 𝕄} :
    iprop(records m ρ K ∗ accPts m ρ c (leafSh c) ∗ (∃ f, rowPts c c f) ∗ dutyTok ER (recvCell c c) 0 d₀)
      ⊢ iprop((cred (tallyAt (recvCell c c) () NC) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma accM (.here dst) (.dma q) h1 h2 h3) k) Q) := by
  subst hdst hq
  iintro ⟨#HR, Ha, ⟨%f, Hs⟩, Htok⟩ Hk
  ihave Hr := (rec_recv m ρ K c c) $$ HR
  icases Hr with ⟨#HI, #Hreach⟩
  unfold accPts rowPts
  iapply (Rounds.wp_copy_pointsTo 𝒱₀ ER (xRd m ρ) (c : Thread nD τ) none (κ := K (c, iRecv c)) (r := 0) (d := d₀) (fd := f)
      (by rw [duties_recv]; exact Finset.mem_singleton_self _) () NC rfl (amount_recv m ρ c c 0 d₀)
      (by
        rw [payload_recv, row_landed]
        unfold recvPay accPts
        rw [if_pos rfl])) $$ [Ha Hs Htok]
  · isplitr; · iexact HI
    isplitl [Ha]; · iexact Ha
    isplitl [Hs]; · iexact Hs
    isplitl [Htok]; · iexact Htok
    iexact Hreach
  iexact Hk

/-! ## The copies to the others -/

def sendIn (p : Dev nD) : sProp 𝕄 := if p = c then iprop(emp) else
  iprop(dutyTok ER (sendCell c p) 0 d₀ ∗ dutyTok ER (recvCell p c) 0 d₀ ∗ accPts m ρ c (leafSh p) ∗ ∃ f, rowPts p c f)
def sendOut (p : Dev nD) : sProp 𝕄 := if p = c then iprop(emp) else cred (tallyAt (sendCell c p) () NC)
def sendSt (k : ℕ) : sProp 𝕄 :=
  iprop(owesSome c (owR c (above k)) ∗ bigSep (above k) (sendIn m ρ c) ∗ bigSep (below k) (sendOut (F := F) c))

theorem wp_send_to (p : Dev nD) (hp : p ≠ c) {n : Dev nD} (hn : n = p) {dst : Memref sig .tc .vmem S1024x2 .bf16} (hdst : dst = rowM c)
    {qs qr : DmaSem sig} (hqs : qs = sendS p) (hqr : qr = recvS c)
    {h1 : (accM : Memref sig .tc .vmem S1024x2 .bf16).view.WordExact} {h2 : dst.view.WordExact} {hsc : dst.view.ref.isScScratch = false}
    {h3 : DmaTarget.Typed (.vmem : Space) (.dma qr) (.remote (n : Thread nD τ) dst (.dma qs) hsc)}
    {k : PUnit.{1} → PR F α} {Q : α → sProp 𝕄} :
    iprop(records m ρ K ∗ sendSt m ρ c p.val)
      ⊢ iprop((sendSt m ρ c (p.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma accM (.remote (n : Thread nD τ) dst (.dma qs) hsc) (.dma qr) h1 h2 h3) k) Q) := by
  subst hn hdst hqs hqr
  unfold sendSt owesSome
  iintro ⟨#HR, ⟨⟨%W, Ho⟩, HA, HB⟩⟩ Hk
  ihave HA' := (Entails.of_eq (above_take (sendIn m ρ c) n)) $$ HA
  icases HA' with ⟨Hin, HA⟩
  ihave Hin' := (Entails.of_eq (show sendIn m ρ c n = _ from if_neg hp)) $$ Hin
  icases Hin' with ⟨Ht1, Ht2, Ha, ⟨%f, Hrow⟩⟩
  ihave Hr1 := (rec_send m ρ K c n) $$ HR
  icases Hr1 with ⟨#HI1, #Hreach1⟩
  ihave Hr2 := (rec_recv m ρ K n c) $$ HR
  icases Hr2 with ⟨#HI2, #Hreach2⟩
  unfold accPts rowPts
  iapply (Rounds.wp_send_pointsTo 𝒱₀ ER (xRd m ρ) (c : Thread nD τ) none (κ₁ := K (c, iSend n)) (κ₂ := K (n, iRecv c))
      (r₁ := 0) (r₂ := 0) (d₁ := d₀) (d₂ := d₀) (fd := f)
      (by rw [duties_send m ρ c n hp]; exact Finset.mem_singleton_self _) (by rw [duties_recv]; exact Finset.mem_singleton_self _)
      () () NC rfl (amount_send m ρ c n 0 d₀) (amount_recv m ρ n c 0 d₀) (owR c (above (n.val + 1)))
      (show owR c (above n.val) = _ by rw [owR_step, if_neg hp]) (W := W)
      (by rw [payload_send]; exact BI.Entails.refl _)
      (by
        rw [payload_recv, row_landed]
        unfold recvPay
        rw [if_neg (fun h => hp h.symm)]
        exact (sep_emp (PROP := sProp 𝕄)).2)) $$ [Ha Hrow Ho Ht1 Ht2]
  · isplitr; · iexact HI1
    isplitr; · iexact HI2
    isplitl [Ha]; · iexact Ha
    isplitl [Hrow]; · iexact Hrow
    isplitl [Ho]; · iexact Ho
    isplitl [Ht1]; · iexact Ht1
    isplitr; · iexact Hreach1
    isplitl [Ht2]; · iexact Ht2
    iexact Hreach2
  iintro ⟨Hc, Ho⟩
  iapply Hk
  isplitl [Ho]; · iexists W; iexact Ho
  isplitl [HA]; · iexact HA
  rw [below_put]
  isplitl [Hc]
  · unfold sendOut; rw [if_neg hp]; iexact Hc
  iexact HB

/-- At its own number a device sends nothing. -/
theorem send_skip : sendSt m ρ c c.val ⊢ sendSt m ρ c (c.val + 1) := by
  unfold sendSt
  rw [above_take, below_put, owR_step, if_pos rfl, add_zero]
  unfold sendOut
  rw [if_pos rfl]
  iintro ⟨Ho, ⟨-, HA⟩, HB⟩
  isplitl [Ho]; · iexact Ho
  isplitl [HA]; · iexact HA
  isplitr; · iempintro
  iexact HB

/-- The copy to `p`, issued unless `p` is the device itself. -/
theorem wp_send (p : Dev nD) {i j : ℕ} (hi : i = p.val) (hj : j = p.val + 1) {b : BitVec 1} (hb : b = 1#1 ↔ p ≠ c)
    {X : b = 1#1 → PR F α} {Y : ¬ b = 1#1 → PR F α} {R : PUnit.{1} → PR F α}
    (n : b = 1#1 → Dev nD) (hn : ∀ h, n h = p) (dst : b = 1#1 → Memref sig .tc .vmem S1024x2 .bf16) (hdst : ∀ h, dst h = rowM c)
    (qs : DmaSem sig) (qr : b = 1#1 → DmaSem sig) (hqs : qs = sendS p) (hqr : ∀ h, qr h = recvS c)
    (h1 : (accM : Memref sig .tc .vmem S1024x2 .bf16).view.WordExact) (h2 : ∀ h, (dst h).view.WordExact)
    (hsc : ∀ h, (dst h).view.ref.isScScratch = false)
    (h3 : ∀ h, DmaTarget.Typed (.vmem : Space) (.dma (qr h)) (.remote (n h : Thread nD τ) (dst h) (.dma qs) (hsc h)))
    (hY : ∀ h, Y h = R ⟨⟩)
    (hX : ∀ h, X h = .op (.enqueueDma accM (.remote (n h : Thread nD τ) (dst h) (.dma qs) (hsc h)) (.dma (qr h)) h1 (h2 h) (h3 h)) fun _ => R ⟨⟩)
    {Q : α → sProp 𝕄} :
    iprop(records m ρ K ∗ sendSt m ρ c i)
      ⊢ iprop((sendSt m ρ c j -∗ wp frame (wpE (defs₀ (F := F)) 𝒱₀ (c : Thread nD τ) none) Set.univ (R ⟨⟩) Q) -∗ wp frame (wpE (defs₀ (F := F)) 𝒱₀ (c : Thread nD τ) none) Set.univ (dite (b = 1#1) X Y) Q) := by
  subst hi hj
  by_cases h : b = 1#1
  · rw [dif_pos h, hX h]
    exact wp_send_to m ρ K c p (hb.mp h) (hn h) (hdst h) hqs (hqr h)
  · rw [dif_neg h, hY h]
    obtain rfl : p = c := Decidable.not_not.mp fun hpc => h (hb.mpr hpc)
    iintro ⟨-, HS⟩ Hk
    iapply Hk
    iapply (send_skip m ρ p)
    iexact HS

/-! ## The rows' arrivals -/

def recvIn (s : Dev nD) : sProp 𝕄 := iprop(cred (tallyAt (recvCell c s) () NC) ∗ atPos ER (recvCell c s) 0 ∅ 0)
def recvOut (s : Dev nD) : sProp 𝕄 := iprop(recvPay m ρ c s ∗ semVal (recvCell c s) 0)
def recvSt (k : ℕ) : sProp 𝕄 :=
  iprop(owesSome c 0 ∗ bigSep (above k) (recvIn (F := F) c) ∗ bigSep (below k) (recvOut m ρ c))

theorem wp_recv (s : Dev nD) {i j : ℕ} (hi : i = s.val) (hj : j = s.val + 1)
    {sp sp' : Space} {sh sh' : Shape} {e e' : EltTy} {src : Memref sig .tc sp sh e} {dst : Memref sig .tc sp' sh' e'} (hN : dst.view.dmaCredit = NC)
    {q : DmaSem sig} (hq : q = recvS s) {h1 : src.view.WordExact} {h2 : dst.view.WordExact}
    {k : PUnit.{1} → PR F α} {Q : α → sProp 𝕄} :
    iprop(records m ρ K ∗ recvSt m ρ c i)
      ⊢ iprop((recvSt m ρ c j -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst h1 h2) k) Q) := by
  subst hi hj hq
  unfold recvSt owesSome
  iintro ⟨#HR, ⟨⟨%W, Ho⟩, HA, HB⟩⟩ Hk
  ihave HA' := (Entails.of_eq (above_take (recvIn (F := F) c) s)) $$ HA
  unfold recvIn
  icases HA' with ⟨⟨Hc, Hat⟩, HA⟩
  ihave Hr := (rec_recv m ρ K c s) $$ HR
  icases Hr with ⟨#HI, -⟩
  iapply (Rounds.wp_wait_rest_token 𝒱₀ ER (xRd m ρ) (c : Thread nD τ) none (κ := K (c, iRecv s)) (k' := dst.view.dmaCredit)
      (wpE_waitDma2_eq 𝒱₀ (c : Thread nD τ) none Set.univ) (Set.mem_univ _) () (O := 0) (W := W) (R := 0) (m := 0) (T := ∅)
      (by rw [Nat.zero_add, expect_recv, hN])) $$ [Hc Ho Hat]
  · isplitr; · iexact HI
    isplitl [Hc]; · rw [hN]; iexact Hc
    isplitl [Ho]; · iexact Ho
    isplitr; · rw [MayWait_zero]; iempintro
    iexact Hat
  iintro ⟨Ho, Hat, -, Hpay⟩
  imod (Rounds.cell_close ER (xRd m ρ) (Set.mem_univ (K (c, iRecv s))) (fun h => h) (R := 0 + 1) (duties_recv_later m ρ c s)) $$ [Hat] with Hz
  · isplitr; · iexact HI
    iexact Hat
  ihave Hp := (Entails.of_eq (rest_recv m ρ c s)) $$ Hpay
  iapply Hk
  isplitl [Ho]; · iexists _; iexact Ho
  isplitl [HA]; · iexact HA
  rw [below_put]
  unfold recvOut
  isplitl [Hp Hz]
  · isplitl [Hp]; · iexact Hp
    iexact Hz
  iexact HB

/-! ## The copies' completions -/

def doneIn (p : Dev nD) : sProp 𝕄 := iprop(sendOut (F := F) c p ∗ atPos ER (sendCell c p) 0 ∅ 0)
def doneOut (p : Dev nD) : sProp 𝕄 := iprop((if p = c then iprop(emp) else accPts m ρ c (leafSh p)) ∗ semVal (sendCell c p) 0)
def doneSt (k : ℕ) : sProp 𝕄 :=
  iprop(owesSome c 0 ∗ bigSep (above k) (doneIn (F := F) c) ∗ bigSep (below k) (doneOut m ρ c))

theorem wp_done_of (p : Dev nD) (hp : p ≠ c)
    {sp sp' : Space} {sh sh' : Shape} {e e' : EltTy} {src : Memref sig .tc sp sh e} {dst : Memref sig .tc sp' sh' e'} (hN : dst.view.dmaCredit = NC)
    {q : DmaSem sig} (hq : q = sendS p) {h1 : src.view.WordExact} {h2 : dst.view.WordExact}
    {k : PUnit.{1} → PR F α} {Q : α → sProp 𝕄} :
    iprop(records m ρ K ∗ doneSt m ρ c p.val)
      ⊢ iprop((doneSt m ρ c (p.val + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst h1 h2) k) Q) := by
  subst hq
  unfold doneSt owesSome
  iintro ⟨#HR, ⟨⟨%W, Ho⟩, HA, HB⟩⟩ Hk
  ihave HA' := (Entails.of_eq (above_take (doneIn (F := F) c) p)) $$ HA
  unfold doneIn
  icases HA' with ⟨⟨Hc, Hat⟩, HA⟩
  ihave Hc := (Entails.of_eq (show sendOut (F := F) c p = _ from if_neg hp)) $$ Hc
  ihave Hr := (rec_send m ρ K c p) $$ HR
  icases Hr with ⟨#HI, -⟩
  iapply (Rounds.wp_wait_rest_token 𝒱₀ ER (xRd m ρ) (c : Thread nD τ) none (κ := K (c, iSend p)) (k' := dst.view.dmaCredit)
      (wpE_waitDma2_eq 𝒱₀ (c : Thread nD τ) none Set.univ) (Set.mem_univ _) () (O := 0) (W := W) (R := 0) (m := 0) (T := ∅)
      (by rw [Nat.zero_add, expect_send m ρ c p hp, hN])) $$ [Hc Ho Hat]
  · isplitr; · iexact HI
    isplitl [Hc]; · rw [hN]; iexact Hc
    isplitl [Ho]; · iexact Ho
    isplitr; · rw [MayWait_zero]; iempintro
    iexact Hat
  iintro ⟨Ho, Hat, -, Hpay⟩
  imod (Rounds.cell_close ER (xRd m ρ) (Set.mem_univ (K (c, iSend p))) (fun h => h) (R := 0 + 1) (duties_send_later m ρ c p)) $$ [Hat] with Hz
  · isplitr; · iexact HI
    iexact Hat
  ihave Hp := (Entails.of_eq (rest_send m ρ c p hp)) $$ Hpay
  iapply Hk
  isplitl [Ho]; · iexists _; iexact Ho
  isplitl [HA]; · iexact HA
  rw [below_put]
  unfold doneOut
  rw [if_neg hp]
  isplitl [Hp Hz]
  · isplitl [Hp]; · unfold sendPay; iexact Hp
    iexact Hz
  iexact HB

/-- The completion of the copy to `p`, waited for unless `p` is the device itself. -/
theorem wp_done (p : Dev nD) {i j : ℕ} (hi : i = p.val) (hj : j = p.val + 1) {b : BitVec 1} (hb : b = 1#1 ↔ p ≠ c)
    {X : b = 1#1 → PR F α} {Y : ¬ b = 1#1 → PR F α} {R : PUnit.{1} → PR F α}
    (src : b = 1#1 → Memref sig .tc .vmem S1024x2 .bf16)
    (q : DmaSem sig) (hq : q = sendS p) (h1 : ∀ h, (src h).view.WordExact) (h2 : (accM : Memref sig .tc .vmem S1024x2 .bf16).view.WordExact)
    (hY : ∀ h, Y h = R ⟨⟩) (hX : ∀ h, X h = .op (.waitDma2 q (src h) accM (h1 h) h2) fun _ => R ⟨⟩)
    {Q : α → sProp 𝕄} :
    iprop(records m ρ K ∗ doneSt m ρ c i)
      ⊢ iprop((doneSt m ρ c j -∗ wp frame (wpE (defs₀ (F := F)) 𝒱₀ (c : Thread nD τ) none) Set.univ (R ⟨⟩) Q) -∗ wp frame (wpE (defs₀ (F := F)) 𝒱₀ (c : Thread nD τ) none) Set.univ (dite (b = 1#1) X Y) Q) := by
  subst hi hj
  by_cases h : b = 1#1
  · rw [dif_pos h, hX h]
    exact wp_done_of m ρ K c p (hb.mp h) rfl hq
  · rw [dif_neg h, hY h]
    obtain rfl : p = c := Decidable.not_not.mp fun hpc => h (hb.mpr hpc)
    unfold doneSt
    iintro ⟨#HR, ⟨Ho, HA, HB⟩⟩ Hk
    ihave HA' := (Entails.of_eq (above_take (doneIn (F := F) p) p)) $$ HA
    unfold doneIn
    icases HA' with ⟨⟨-, Hat⟩, HA⟩
    ihave Hr := (rec_send m ρ K p p) $$ HR
    icases Hr with ⟨#HI, -⟩
    imod (Rounds.cell_close ER (xRd m ρ) (Set.mem_univ (K (p, iSend p))) (fun h => h) (R := 0) (duties_send_self m ρ p)) $$ [Hat] with Hz
    · isplitr; · iexact HI
      iexact Hat
    iapply Hk
    isplitl [Ho]; · iexact Ho
    isplitl [HA]; · iexact HA
    rw [below_put]
    unfold doneOut
    rw [if_pos rfl]
    isplitl [Hz]
    · isplitr; · iempintro
      iexact Hz
    iexact HB

end Cert.KernelIdealProof

end
-- ==== Proof.KernelIdealParts.lean ====
/-
# The first half of the body: the weight's blocks, the pair, the handshake
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × (Fin 34 ⊕ Unit) → ℕ)
variable {α : Type} (c : Dev nD)

/-- A whole buffer of a device. -/
def buf (c : Dev nD) (b : Ref sig .tc) (f : Buf (Elt F) ((c : Thread nD τ).loc b)) : sProp 𝕄 :=
  ((c : Thread nD τ).loc b) ↦{fullShare} f

theorem lift_bind {β : Type} (e : TpuEff nD τ sig (Elt F) Λ₀ .tc β) (f : β → PR F α) : Bind.bind (Prog.lift e) f = .op e f := rfl

theorem zero2 : (![0, 0] : Fin 2 → Nat) = fun _ => 0 := funext fun a => by fin_cases a <;> rfl
theorem zero3 : (![0, 0, 0] : Fin 3 → Nat) = fun _ => 0 := funext fun a => by fin_cases a <;> rfl

/-! ## Loads and stores at known results -/

theorem wp_load_at {cs : CoreSpace} {s : Shape} {e : EltTy} {M : Memref sig .tc cs s e} {Q : α → sProp 𝕄}
    {r : LoadRect s} {hl : M.view.LoadsAt r} {k : (r.shape.Idx → Elt F e) → PR F α}
    (S : Finset (Idx (M.view.loc (c : Thread nD τ)))) (q : PosShare TreeShare) (f : Buf (Elt F) (M.view.loc (c : Thread nD τ)))
    {v : r.shape.Idx → Elt F e} (hS : M.view.setOn r.set ⊆ S) (hv : M.view.readAt (Elt F) r f = v) :
    (M.view.loc (c : Thread nD τ) ↦[S]{q} f)
      ⊢ iprop(((M.view.loc (c : Thread nD τ) ↦[S]{q} f) -∗ wp frame (wpE (defs₀ (F := F)) 𝒱₀ (c : Thread nD τ) none) Set.univ (k v) Q) -∗ wp frame (wpE (defs₀ (F := F)) 𝒱₀ (c : Thread nD τ) none) Set.univ (.op (.load M r hl) k) Q) := by
  subst hv
  exact wp_load 𝒱₀ (c : Thread nD τ) none Set.univ hS

theorem wp_store_at {cs : CoreSpace} {s : Shape} {e : EltTy} {M : Memref sig .tc cs s e} {Q : α → sProp 𝕄}
    (r : Rect s) {w : r.shape.Idx → Elt F e} {hx : (M.access r).Stores Finset.univ}
    {hm : (Finset.univ : Finset r.shape.Idx) = Finset.univ ∨ ∀ a, r.stride a = 1} {k : PUnit.{1} → PR F α}
    (f : Buf (Elt F) ((M.access r).loc (c : Thread nD τ))) {v : Buf (Elt F) ((M.access r).loc (c : Thread nD τ))}
    (hv : (M.access r).write (Elt F) f w Finset.univ = v) :
    ((M.access r).loc (c : Thread nD τ) ↦{fullShare} f)
      ⊢ iprop((((M.access r).loc (c : Thread nD τ) ↦{fullShare} v) -∗ wp frame (wpE (defs₀ (F := F)) 𝒱₀ (c : Thread nD τ) none) Set.univ (k ⟨⟩) Q) -∗ wp frame (wpE (defs₀ (F := F)) 𝒱₀ (c : Thread nD τ) none) Set.univ (.op (.store M r w Finset.univ hx hm) k) Q) := by
  subst hv
  exact wp_store 𝒱₀ (c : Thread nD τ) none Set.univ (Finset.subset_univ _)

/-- A load of slot `s` after its copy: the block. -/
theorem wp_load_slot (s : Fin 2) (r : ℕ) {off : Fin 3 → ℕ} (hoff : off = ![s.val, 0, 0])
    {hi : ∀ a, off a + S1x2048x512.size a ≤ S2x2048x512.size a}
    {hl : (wbM : Memref sig .tc .vmem S2x2048x512 .f32).view.LoadsAt (Rect.unit (s := S2x2048x512) off S1x2048x512.size hi).toLoadRect}
    {k : Vec F S1x2048x512 .f32 → PR F α} {Q : α → sProp 𝕄} :
    slotAt m c s r ⊢ iprop((slotAt m c s r -∗ wp frame (wpE (defs₀ (F := F)) 𝒱₀ (c : Thread nD τ) none) Set.univ (k (wld m c (blkOf s r))) Q)
      -∗ wp frame (wpE (defs₀ (F := F)) 𝒱₀ (c : Thread nD τ) none) Set.univ (.op (.load wbM (Rect.unit (s := S2x2048x512) off S1x2048x512.size hi).toLoadRect hl) k) Q) := by
  subst hoff
  unfold slotAt
  iintro ⟨%f, %hf, Hs⟩ Hk
  unfold halfPts
  iapply (wp_load_at c (M := wbM) (halfM s).view.set fullShare f (v := wld m c (blkOf s r)) (by
    rw [show (halfM s).view.set = wbM.view.setOn (halfR s).set from (View.set_reshape _ _).trans (View.set_slice _ _)]) hf) $$ Hs
  iintro Hs
  iapply Hk
  iexists f
  isplitr
  · ipureintro; exact hf
  iexact Hs

theorem slot_any (s : Fin 2) (r : ℕ) : slotAt m c s r ⊢ iprop(∃ f, halfPts c s f) := by
  unfold slotAt
  iintro ⟨%f, -, H⟩
  iexists f
  iexact H

/-- The block `blkOf s r` asked for, the block `blkOf s' r'` waited for and loaded, the copy of `x` loaded. -/
theorem wp_block (s s' : Fin 2) (r r' n : ℕ) (hr : r < 2) (hr' : r' < 2) (hn : n = r' + 1)
    {src src' : Memref sig .tc .hbm S2048x512 .f32} (hsrc : src = blkM c (blkOf s r))
    {dst dst' : Memref sig .tc .vmem S2048x512 .f32} (hdst : dst = halfM s) (hdst' : dst' = halfM s')
    {q q' : DmaSem sig} (hq : q = copyS s) (hq' : q' = copyS s')
    {h1 : src.view.WordExact} {h2 : dst.view.WordExact} {h3 : DmaTarget.Typed (nD := nD) (.hbm : Space) (.dma q) (DmaTarget.here (p := .tc) dst)}
    {h4 : src'.view.WordExact} {h5 : dst'.view.WordExact}
    {off : Fin 3 → ℕ} (hoff : off = ![s'.val, 0, 0]) {hi : ∀ a, off a + S1x2048x512.size a ≤ S2x2048x512.size a}
    {hl : (wbM : Memref sig .tc .vmem S2x2048x512 .f32).view.LoadsAt (Rect.unit (s := S2x2048x512) off S1x2048x512.size hi).toLoadRect}
    {hl' : (xbM : Memref sig .tc .vmem S1024x2048 .bf16).view.LoadsAt (Rect.unit (s := S1024x2048) ![0, 0] S1024x2048.size inb_S1024x2048_S1024x2048_0_0).toLoadRect}
    {k : Vec F S1x2048x512 .f32 → Vec F S1024x2048 .bf16 → PR F α} {Q : α → sProp 𝕄} :
    iprop(records m ρ K ∗ levAts L lv ∗ (wShare m c s ∗ (∃ f, halfPts c s f) ∗ dutyTok ER (copyCell c s) r d₀ ∗ reached ER (copyCell c s) r)
        ∗ (copying m c s' r' ∗ atPos ER (copyCell c s') r' ∅ 0) ∗ owesSome c (O₀ c) ∗ buf c cc0_scratch0 (xb m ρ c))
      ⊢ iprop(((copying m c s r ∗ (atPos ER (copyCell c s') n ∅ 0 ∗ reached ER (copyCell c s') n ∗ wShare m c s' ∗ ∃ f, halfPts c s' f)
            ∗ owesSome c (O₀ c) ∗ buf c cc0_scratch0 (xb m ρ c)) -∗ wp frame (wpE (defs₀ (F := F)) 𝒱₀ (c : Thread nD τ) none) Set.univ (k (wld m c (blkOf s' r')) (xb m ρ c)) Q)
        -∗ wp frame (wpE (defs₀ (F := F)) 𝒱₀ (c : Thread nD τ) none) Set.univ (.op (.enqueueDma src (.here dst) (.dma q) h1 h2 h3) fun _ => .op (.waitDma2 q' src' dst' h4 h5) fun _ => .op (.load wbM (Rect.unit (s := S2x2048x512) off S1x2048x512.size hi).toLoadRect hl) fun v => .op (.load xbM (Rect.unit (s := S1024x2048) ![0, 0] S1024x2048.size inb_S1024x2048_S1024x2048_0_0).toLoadRect hl') fun w => k v w) Q) := by
  iintro ⟨#HR, #Hlev, ⟨Hw, Hs, Htok, Hreach⟩, ⟨Hc', Hat⟩, Ho, Hb⟩ Hk
  iapply (wp_wcopy m ρ K c s r hr hsrc hdst hq) $$ [Hw Hs Htok Hreach]
  · isplitr; · iexact HR
    isplitl [Hw]; · iexact Hw
    isplitl [Hs]; · iexact Hs
    isplitl [Htok]; · iexact Htok
    iexact Hreach
  iintro Hc
  iapply (wp_wwait m ρ K c s' r' n hr' hn hdst' hq') $$ [Hc' Ho Hat]
  · isplitr; · iexact HR
    isplitl [Hc']; · iexact Hc'
    isplitl [Ho]; · iexact Ho
    isplitl [Hat]; · iexact Hat
    iexact Hlev
  iintro ⟨Ho, Hat, Hreach, Hw, Hs⟩
  iapply (wp_load_slot m c s' r' hoff) $$ Hs
  iintro Hs
  unfold buf
  iapply (wp_load_at c (M := xbM) Finset.univ fullShare (xb m ρ c) (v := xb m ρ c) (Finset.subset_univ _)
    (Memref.readAt_unit_zero (Elt F) cc0_scratch0 zero2 _ _)) $$ Hb
  iintro Hb
  iapply Hk
  isplitl [Hc]; · iexact Hc
  isplitl [Hat Hreach Hw Hs]
  · isplitl [Hat]; · iexact Hat
    isplitl [Hreach]; · iexact Hreach
    isplitl [Hw]; · iexact Hw
    iapply (slot_any m c s' r')
    iexact Hs
  isplitl [Ho]; · iexact Ho
  iexact Hb

/-! ## The parts -/

theorem part1 {Q : _ → sProp 𝕄} :
    iprop(records m ρ K ∗ buf c cc0_stg0_0 (xv m ρ c) ∗ buf c cc0_stg1_0 (labv m ρ c) ∗ (∃ f, buf c cc0_scratch0 f)
        ∗ wShare m c 0 ∗ (∃ f, halfPts c 0 f) ∗ dutyTok ER (copyCell c 0) 0 d₀
        ∗ ((buf c cc0_stg0_0 (xv m ρ c) ∗ buf c cc0_stg1_0 (labv m ρ c) ∗ buf c cc0_scratch0 (xb m ρ c) ∗ copying m c 0 0)
          -∗ ∀ v12, Q ⟨c, xw c, v12, colw c, lab m ρ c, k0_pay4, k0_pay5⟩))
      ⊢ wp frame (wpE (defs₀ (F := F)) 𝒱₀ (c : Thread nD τ) none) Set.univ (k0_part1 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6) Q := by
  rw [k0_part1_eq_skeleton]
  unfold k0_part1_skel xw colw lab
  simp only [Prog.lift, Prog.bind_op, Prog.bind_ret, Prog.pure_eq_ret, wp_deviceId]
  iintro ⟨#HR, Hx, Hl, ⟨%f0, Hb⟩, Hw, Hs, Htok, Hk⟩
  unfold buf
  iapply (wp_load_at c (M := xM) Finset.univ fullShare (xv m ρ c) (v := xv m ρ c) (Finset.subset_univ _)
    (Memref.readAt_unit_zero (Elt F) cc0_stg0_0 zero2 _ _)) $$ Hx
  iintro Hx
  iapply (wp_load_at c (M := xbM) Finset.univ fullShare f0 (v := f0) (Finset.subset_univ _)
    (Memref.readAt_unit_zero (Elt F) cc0_scratch0 zero2 _ _)) $$ Hb
  iintro Hb
  iapply (wp_store_at c (M := xbM) (Rect.unit (s := S1024x2048) ![0, 0] S1024x2048.size inb_S1024x2048_S1024x2048_0_0) f0 (v := xb m ρ c)
    (Memref.write_access_unit_zero_univ (Elt F) cc0_scratch0 zero2 _ _ _)) $$ Hb
  iintro Hb
  iapply (wp_wcopy m ρ K c 0 0 (by decide) rfl rfl rfl) $$ [Hw Hs Htok]
  · isplitr; · iexact HR
    isplitl [Hw]; · iexact Hw
    isplitl [Hs]; · iexact Hs
    isplitl [Htok]; · iexact Htok
    ihave Hr := (rec_copy m ρ K c 0) $$ HR
    icases Hr with ⟨-, #Hr⟩
    iexact Hr
  iintro Hc
  iapply (wp_load_at c (M := labM) Finset.univ fullShare (labv m ρ c) (v := labv m ρ c) (Finset.subset_univ _)
    (Memref.readAt_unit_zero (Elt F) cc0_stg1_0 zero2 _ _)) $$ Hl
  iintro Hl
  rw [wp_ret]
  imodintro
  iapply Hk $$ [Hx Hl Hb Hc]
  isplitl [Hx]; · iexact Hx
  isplitl [Hl]; · iexact Hl
  isplitl [Hb]; · iexact Hb
  iexact Hc

/-- Part 2: block 1 asked for, block 0 used. -/
theorem part2 {Q : _ → sProp 𝕄} :
    iprop(records m ρ K ∗ levAts L lv ∗ (wShare m c 1 ∗ (∃ f, halfPts c 1 f) ∗ dutyTok ER (copyCell c 1) 0 d₀ ∗ reached ER (copyCell c 1) 0)
        ∗ (copying m c 0 0 ∗ atPos ER (copyCell c 0) 0 ∅ 0) ∗ owesSome c (O₀ c) ∗ buf c cc0_scratch0 (xb m ρ c)
        ∗ ((copying m c 1 0 ∗ (atPos ER (copyCell c 0) 1 ∅ 0 ∗ reached ER (copyCell c 0) 1 ∗ wShare m c 0 ∗ ∃ f, halfPts c 0 f)
            ∗ owesSome c (O₀ c) ∗ buf c cc0_scratch0 (xb m ρ c)) -∗ Q ⟨sum1 m ρ c, lbl1 m ρ c⟩))
      ⊢ wp frame (wpE (defs₀ (F := F)) 𝒱₀ (c : Thread nD τ) none) Set.univ (k0_part2 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c (xw c) (colw c) (lab m ρ c) k0_pay4 k0_pay5) Q := by
  rw [k0_part2_eq_skeleton]
  unfold k0_part2_skel
  simp only [Prog.lift, Prog.bind_op, Prog.bind_ret, Prog.pure_eq_ret]
  rw [show sum1 m ρ c = k0_pay7 k0_pay4 (wld m c (blkOf 0 0)) (xb m ρ c) from rfl,
    show lbl1 m ρ c = k0_pay8 (xw c) (colw c) (lab m ρ c) k0_pay5 (wld m c (blkOf 0 0)) (xb m ρ c) from rfl]
  iintro ⟨#HR, #Hlev, Hs, Hc, Ho, Hb, Hk⟩
  iapply (wp_block m ρ K c 1 0 0 0 1 (by decide) (by decide) rfl rfl rfl rfl rfl rfl rfl) $$ [Hs Hc Ho Hb]
  · isplitr; · iexact HR
    isplitr; · iexact Hlev
    isplitl [Hs]; · iexact Hs
    isplitl [Hc]; · iexact Hc
    isplitl [Ho]; · iexact Ho
    iexact Hb
  iintro H
  rw [wp_ret]
  imodintro
  iapply Hk $$ H

/-- Part 3: block 2 asked for, block 1 used. -/
theorem part3 {Q : _ → sProp 𝕄} :
    iprop(records m ρ K ∗ levAts L lv ∗ (wShare m c 0 ∗ (∃ f, halfPts c 0 f) ∗ dutyTok ER (copyCell c 0) 1 d₀ ∗ reached ER (copyCell c 0) 1)
        ∗ (copying m c 1 0 ∗ atPos ER (copyCell c 1) 0 ∅ 0) ∗ owesSome c (O₀ c) ∗ buf c cc0_scratch0 (xb m ρ c)
        ∗ ((copying m c 0 1 ∗ (atPos ER (copyCell c 1) 1 ∅ 0 ∗ reached ER (copyCell c 1) 1 ∗ wShare m c 1 ∗ ∃ f, halfPts c 1 f)
            ∗ owesSome c (O₀ c) ∗ buf c cc0_scratch0 (xb m ρ c)) -∗ Q ⟨sum2 m ρ c, lbl2 m ρ c⟩))
      ⊢ wp frame (wpE (defs₀ (F := F)) 𝒱₀ (c : Thread nD τ) none) Set.univ (k0_part3 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c (xw c) (colw c) (lab m ρ c) (sum1 m ρ c) (lbl1 m ρ c)) Q := by
  rw [k0_part3_eq_skeleton]
  unfold k0_part3_skel
  simp only [Prog.lift, Prog.bind_op, Prog.bind_ret, Prog.pure_eq_ret]
  rw [show sum2 m ρ c = k0_pay10 (sum1 m ρ c) (wld m c (blkOf 1 0)) (xb m ρ c) from rfl,
    show lbl2 m ρ c = k0_pay11 (xw c) (colw c) (lab m ρ c) (lbl1 m ρ c) (wld m c (blkOf 1 0)) (xb m ρ c) from rfl]
  iintro ⟨#HR, #Hlev, Hs, Hc, Ho, Hb, Hk⟩
  iapply (wp_block m ρ K c 0 1 1 0 1 (by decide) (by decide) rfl rfl rfl rfl rfl rfl rfl) $$ [Hs Hc Ho Hb]
  · isplitr; · iexact HR
    isplitr; · iexact Hlev
    isplitl [Hs]; · iexact Hs
    isplitl [Hc]; · iexact Hc
    isplitl [Ho]; · iexact Ho
    iexact Hb
  iintro H
  rw [wp_ret]
  imodintro
  iapply Hk $$ H

/-- Part 4: block 3 asked for, block 2 used. -/
theorem part4 {Q : _ → sProp 𝕄} :
    iprop(records m ρ K ∗ levAts L lv ∗ (wShare m c 1 ∗ (∃ f, halfPts c 1 f) ∗ dutyTok ER (copyCell c 1) 1 d₀ ∗ reached ER (copyCell c 1) 1)
        ∗ (copying m c 0 1 ∗ atPos ER (copyCell c 0) 1 ∅ 0) ∗ owesSome c (O₀ c) ∗ buf c cc0_scratch0 (xb m ρ c)
        ∗ ((copying m c 1 1 ∗ (atPos ER (copyCell c 0) 2 ∅ 0 ∗ reached ER (copyCell c 0) 2 ∗ wShare m c 0 ∗ ∃ f, halfPts c 0 f)
            ∗ owesSome c (O₀ c) ∗ buf c cc0_scratch0 (xb m ρ c)) -∗ Q ⟨sum3 m ρ c, lbl3 m ρ c⟩))
      ⊢ wp frame (wpE (defs₀ (F := F)) 𝒱₀ (c : Thread nD τ) none) Set.univ (k0_part4 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c (xw c) (colw c) (lab m ρ c) (sum2 m ρ c) (lbl2 m ρ c)) Q := by
  rw [k0_part4_eq_skeleton]
  unfold k0_part4_skel
  simp only [Prog.lift, Prog.bind_op, Prog.bind_ret, Prog.pure_eq_ret]
  rw [show sum3 m ρ c = k0_pay13 (sum2 m ρ c) (wld m c (blkOf 0 1)) (xb m ρ c) from rfl,
    show lbl3 m ρ c = k0_pay14 (xw c) (colw c) (lab m ρ c) (lbl2 m ρ c) (wld m c (blkOf 0 1)) (xb m ρ c) from rfl]
  iintro ⟨#HR, #Hlev, Hs, Hc, Ho, Hb, Hk⟩
  iapply (wp_block m ρ K c 1 0 1 1 2 (by decide) (by decide) rfl rfl rfl rfl rfl rfl rfl) $$ [Hs Hc Ho Hb]
  · isplitr; · iexact HR
    isplitr; · iexact Hlev
    isplitl [Hs]; · iexact Hs
    isplitl [Hc]; · iexact Hc
    isplitl [Ho]; · iexact Ho
    iexact Hb
  iintro H
  rw [wp_ret]
  imodintro
  iapply Hk $$ H

abbrev barArr : Sems sig S_ := SemArray.scalar (sig.barrier 0 rfl)

/-- Part 5: the last block used, the pair stored. -/
theorem part5 {Q : _ → sProp 𝕄} :
    iprop(records m ρ K ∗ levAts L lv ∗ (copying m c 1 1 ∗ atPos ER (copyCell c 1) 1 ∅ 0) ∗ owesSome c (O₀ c) ∗ buf c cc0_scratch0 (xb m ρ c)
        ∗ (∃ f, buf c cc0_scratch2 f)
        ∗ (((atPos ER (copyCell c 1) 2 ∅ 0 ∗ wShare m c 1 ∗ ∃ f, halfPts c 1 f) ∗ owesSome c (O₀ c) ∗ buf c cc0_scratch0 (xb m ρ c)
            ∗ accPts m ρ c fullShare) -∗ ∀ v, Q ⟨barArr, 0#32, 0#32, v⟩))
      ⊢ wp frame (wpE (defs₀ (F := F)) 𝒱₀ (c : Thread nD τ) none) Set.univ (k0_part5 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c (xw c) (colw c) (lab m ρ c) (sum3 m ρ c) (lbl3 m ρ c)) Q := by
  rw [k0_part5_eq_skeleton]
  unfold k0_part5_skel
  simp only [Prog.lift, Prog.bind_op, Prog.bind_ret, Prog.pure_eq_ret]
  iintro ⟨#HR, #Hlev, ⟨Hc, Hat⟩, Ho, Hb, ⟨%f, Ha⟩, Hk⟩
  iapply (wp_wwait m ρ K c 1 1 2 (by decide) rfl rfl rfl) $$ [Hc Ho Hat]
  · isplitr; · iexact HR
    isplitl [Hc]; · iexact Hc
    isplitl [Ho]; · iexact Ho
    isplitl [Hat]; · iexact Hat
    iexact Hlev
  iintro ⟨Ho, Hat, -, Hw, Hs⟩
  iapply (wp_load_slot m c 1 1 rfl) $$ Hs
  iintro Hs
  unfold buf
  iapply (wp_load_at c (M := xbM) Finset.univ fullShare (xb m ρ c) (v := xb m ρ c) (Finset.subset_univ _)
    (Memref.readAt_unit_zero (Elt F) cc0_scratch0 zero2 _ _)) $$ Hb
  iintro Hb
  iapply (wp_load_at c (M := accM) Finset.univ fullShare f (Finset.subset_univ _) rfl) $$ Ha
  iintro Ha
  iapply (wp_store_at c (M := accM) colR0 f rfl) $$ Ha
  iintro Ha
  iapply (wp_load_at c (M := accM) Finset.univ fullShare _ (Finset.subset_univ _) rfl) $$ Ha
  iintro Ha
  iapply (wp_store_at c (M := accM) colR1 _
    (show (accM.access colR1 : View sig .tc _ _ _).write (Elt F) ((accM.access colR0 : View sig .tc _ _ _).write (Elt F) f
        (k0_pay16 (sum3 m ρ c) (wld m c (blkOf 1 1)) (xb m ρ c)) Finset.univ)
        (k0_pay17 (xw c) (colw c) (lab m ρ c) (lbl3 m ρ c) (wld m c (blkOf 1 1)) (xb m ρ c)) Finset.univ = accv m ρ c from acc_stored m ρ c f)) $$ Ha
  iintro Ha
  rw [wp_ret]
  imodintro
  iapply Hk $$ [Hat Hw Hs Ho Hb Ha]
  isplitl [Hat Hw Hs]
  · isplitl [Hat]; · iexact Hat
    isplitl [Hw]; · iexact Hw
    iapply (slot_any m c 1 1)
    iexact Hs
  isplitl [Ho]; · iexact Ho
  isplitl [Hb]; · iexact Hb
  unfold accPts
  rw [acc_set]
  iexact Ha

/-- Part 6: the signals to devices 0 to 3. -/
theorem part6 (w₁ w₂ w : BitVec 32) {Q : _ → sProp 𝕄} :
    iprop(records m ρ K ∗ sigSt c 0 ∗ (sigSt c 4 -∗ ∀ v, Q ⟨1#32, 0#32, v⟩))
      ⊢ wp frame (wpE (defs₀ (F := F)) 𝒱₀ (c : Thread nD τ) none) Set.univ (k0_part6 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 barArr w₁ w₂ w) Q := by
  rw [k0_part6_eq_skeleton]
  unfold k0_part6_skel
  simp only [semSignalWord, semWaitWord, Prog.lift, Prog.bind_op, Prog.bind_ret, Prog.pure_eq_ret]
  iintro ⟨#HR, HS, Hk⟩
  iapply (wp_sig m ρ K c ⟨0, by decide⟩ (i := 0) (j := 1) rfl rfl (Fin.ext (by decide)) (by decide) rfl) $$ [HS]
  · isplitr; · iexact HR
    iexact HS
  iintro HS
  iapply (wp_sig m ρ K c ⟨1, by decide⟩ (i := 1) (j := 2) rfl rfl (Fin.ext (by decide)) (by decide) rfl) $$ [HS]
  · isplitr; · iexact HR
    iexact HS
  iintro HS
  iapply (wp_sig m ρ K c ⟨2, by decide⟩ (i := 2) (j := 3) rfl rfl (Fin.ext (by decide)) (by decide) rfl) $$ [HS]
  · isplitr; · iexact HR
    iexact HS
  iintro HS
  iapply (wp_sig m ρ K c ⟨3, by decide⟩ (i := 3) (j := 4) rfl rfl (Fin.ext (by decide)) (by decide) rfl) $$ [HS]
  · isplitr; · iexact HR
    iexact HS
  iintro HS
  rw [wp_ret]
  imodintro
  iapply Hk $$ HS

/-- Part 7: the signals to devices 4 to 7. -/
theorem part7 (w₁ w₂ w : BitVec 32) {Q : _ → sProp 𝕄} :
    iprop(records m ρ K ∗ sigSt c 4 ∗ (sigSt c 8 -∗ ∀ v, Q ⟨0#32, 0#32, v⟩))
      ⊢ wp frame (wpE (defs₀ (F := F)) 𝒱₀ (c : Thread nD τ) none) Set.univ (k0_part7 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 barArr w₁ w₂ w) Q := by
  rw [k0_part7_eq_skeleton]
  unfold k0_part7_skel
  simp only [semSignalWord, semWaitWord, Prog.lift, Prog.bind_op, Prog.bind_ret, Prog.pure_eq_ret]
  iintro ⟨#HR, HS, Hk⟩
  iapply (wp_sig m ρ K c ⟨4, by decide⟩ (i := 4) (j := 5) rfl rfl (Fin.ext (by decide)) (by decide) rfl) $$ [HS]
  · isplitr; · iexact HR
    iexact HS
  iintro HS
  iapply (wp_sig m ρ K c ⟨5, by decide⟩ (i := 5) (j := 6) rfl rfl (Fin.ext (by decide)) (by decide) rfl) $$ [HS]
  · isplitr; · iexact HR
    iexact HS
  iintro HS
  iapply (wp_sig m ρ K c ⟨6, by decide⟩ (i := 6) (j := 7) rfl rfl (Fin.ext (by decide)) (by decide) rfl) $$ [HS]
  · isplitr; · iexact HR
    iexact HS
  iintro HS
  iapply (wp_sig m ρ K c ⟨7, by decide⟩ (i := 7) (j := 8) rfl rfl (Fin.ext (by decide)) (by decide) rfl) $$ [HS]
  · isplitr; · iexact HR
    iexact HS
  iintro HS
  rw [wp_ret]
  imodintro
  iapply Hk $$ HS

/-- Part 8: the signals to devices 8 to 11. -/
theorem part8 (w₁ w₂ w : BitVec 32) {Q : _ → sProp 𝕄} :
    iprop(records m ρ K ∗ sigSt c 8 ∗ (sigSt c 12 -∗ ∀ v, Q ⟨1#32, 0#32, v⟩))
      ⊢ wp frame (wpE (defs₀ (F := F)) 𝒱₀ (c : Thread nD τ) none) Set.univ (k0_part8 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 barArr w₁ w₂ w) Q := by
  rw [k0_part8_eq_skeleton]
  unfold k0_part8_skel
  simp only [semSignalWord, semWaitWord, Prog.lift, Prog.bind_op, Prog.bind_ret, Prog.pure_eq_ret]
  iintro ⟨#HR, HS, Hk⟩
  iapply (wp_sig m ρ K c ⟨8, by decide⟩ (i := 8) (j := 9) rfl rfl (Fin.ext (by decide)) (by decide) rfl) $$ [HS]
  · isplitr; · iexact HR
    iexact HS
  iintro HS
  iapply (wp_sig m ρ K c ⟨9, by decide⟩ (i := 9) (j := 10) rfl rfl (Fin.ext (by decide)) (by decide) rfl) $$ [HS]
  · isplitr; · iexact HR
    iexact HS
  iintro HS
  iapply (wp_sig m ρ K c ⟨10, by decide⟩ (i := 10) (j := 11) rfl rfl (Fin.ext (by decide)) (by decide) rfl) $$ [HS]
  · isplitr; · iexact HR
    iexact HS
  iintro HS
  iapply (wp_sig m ρ K c ⟨11, by decide⟩ (i := 11) (j := 12) rfl rfl (Fin.ext (by decide)) (by decide) rfl) $$ [HS]
  · isplitr; · iexact HR
    iexact HS
  iintro HS
  rw [wp_ret]
  imodintro
  iapply Hk $$ HS

/-- Part 9: the signals to devices 12 to 15, then the wait for all sixteen. -/
theorem part9 (w₁ w₂ w : BitVec 32) {Q : _ → sProp 𝕄} :
    iprop(records m ρ K ∗ sigSt c 12 ∗ (cred (tallyAt (barCell c) () 16) ∗ atPos ER (barCell c) 0 ∅ 0 ∗ levAts L lv) ∗ ((owesSome c (owR c Finset.univ) ∗ semVal (barCell c) 0 ∗ bigSep Finset.univ fun d => barPay (F := F) c d) -∗ Q ⟨⟩))
      ⊢ wp frame (wpE (defs₀ (F := F)) 𝒱₀ (c : Thread nD τ) none) Set.univ (k0_part9 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c barArr w₁ w₂ w) Q := by
  rw [k0_part9_eq_skeleton]
  unfold k0_part9_skel
  simp only [semSignalWord, semWaitWord, Prog.lift, Prog.bind_op, Prog.bind_ret, Prog.pure_eq_ret]
  iintro ⟨#HR, HS, HX, Hk⟩
  iapply (wp_sig m ρ K c ⟨12, by decide⟩ (i := 12) (j := 13) rfl rfl (Fin.ext (by decide)) (by decide) rfl) $$ [HS]
  · isplitr; · iexact HR
    iexact HS
  iintro HS
  iapply (wp_sig m ρ K c ⟨13, by decide⟩ (i := 13) (j := 14) rfl rfl (Fin.ext (by decide)) (by decide) rfl) $$ [HS]
  · isplitr; · iexact HR
    iexact HS
  iintro HS
  iapply (wp_sig m ρ K c ⟨14, by decide⟩ (i := 14) (j := 15) rfl rfl (Fin.ext (by decide)) (by decide) rfl) $$ [HS]
  · isplitr; · iexact HR
    iexact HS
  iintro HS
  iapply (wp_sig m ρ K c ⟨15, by decide⟩ (i := 15) (j := 16) rfl rfl (Fin.ext (by decide)) (by decide) rfl) $$ [HS]
  · isplitr; · iexact HR
    iexact HS
  iintro HS
  iapply (wp_bar m ρ K c (by decide) rfl) $$ [HS HX]
  · isplitr; · iexact HR
    isplitl [HS]; · iexact HS
    iexact HX
  iintro H
  rw [wp_ret]
  imodintro
  iapply Hk $$ H

end Cert.KernelIdealProof

end
-- ==== Proof.KernelIdealExchange.lean ====
/-
The second half of the device's body: its own row, the copies to the others, the arrivals of the
sixteen rows and the completions of the copies.
-/
module

public import proofs.«01_k».proof.Proof.KernelIdealParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × (Fin 34 ⊕ Unit) → ℕ) (c : Dev nD)
variable {α : Type}

/-- The weakest precondition of a program on a device, as one name. -/
@[irreducible] def runs (e : PR F α) (Q : α → sProp 𝕄) : sProp 𝕄 := wp frame (wpE (defs₀ (F := F)) 𝒱₀ (c : Thread nD τ) none) Set.univ e Q

theorem runs_eq (e : PR F α) (Q : α → sProp 𝕄) : runs c e Q = wp frame (wpE (defs₀ (F := F)) 𝒱₀ (c : Thread nD τ) none) Set.univ e Q := by unfold runs; rfl

/-! ## One step, as an entailment -/

/-- The slot of the table named by three offsets that are the device's number and two zeros is the
device's row, and the semaphore named by one offset is the arrival's. -/
theorem slot_eq {o3 : Fin 3 → ℕ} (e3 : o3 = ![c.val, 0, 0]) (i3 : ∀ d, o3 d + S1x1024x2.size d ≤ S16x1024x2.size d) :
    (commM.slice (Rect.unit (s := S16x1024x2) o3 S1x1024x2.size i3) (fun _ => rfl)).squeeze S1024x2 squeezes_S1x1024x2_S1024x2 = rowM c := by
  subst e3
  rfl

theorem recvS_eq {o1 : Fin 1 → ℕ} (e1 : o1 = ![c.val]) (i1 : ∀ d, o1 d + S1.size d ≤ S16.size d) :
    (((cc0_scratch6 : DmaSems sig S16).slice (Rect.unit (s := S16) o1 S1.size i1)).squeeze S_ squeezes_S1_S_).sem = recvS c := by
  subst e1
  exact (show ∀ (d : Dev nD) (h : ∀ a, (![d.val] : Fin 1 → ℕ) a + S1.size a ≤ S16.size a),
    (((cc0_scratch6 : DmaSems sig S16).slice (Rect.unit (s := S16) ![d.val] S1.size h)).squeeze S_ squeezes_S1_S_).sem = recvS d by decide) c i1

theorem own_step {dst : Memref sig .tc .vmem S1024x2 .bf16} {q : DmaSem sig}
    {h1 : (accM : Memref sig .tc .vmem S1024x2 .bf16).view.WordExact} {h2 : dst.view.WordExact}
    {h3 : DmaTarget.Typed (nD := nD) (.vmem : Space) (.dma q) (DmaTarget.here (p := .tc) dst)}
    {k : PUnit.{1} → PR F α} {P : sProp 𝕄} {Q : α → sProp 𝕄} (hdst : dst = rowM c) (hq : q = recvS c)
    (hnext : iprop(records m ρ K ∗ cred (tallyAt (recvCell c c) () NC) ∗ P) ⊢ runs c (k ⟨⟩) Q) :
    iprop(records m ρ K ∗ (accPts m ρ c (leafSh c) ∗ (∃ f, rowPts c c f) ∗ dutyTok ER (recvCell c c) 0 d₀) ∗ P)
      ⊢ runs c (.op (.enqueueDma accM (.here dst) (.dma q) h1 h2 h3) k) Q := by
  rw [runs_eq] at hnext ⊢
  iintro ⟨#HR, H, HP⟩
  iapply (wp_own m ρ K c hdst hq) $$ [H]
  · isplitr; · iexact HR
    iexact H
  iintro Hc
  iapply hnext
  isplitr; · iexact HR
  isplitl [Hc]; · iexact Hc
  iexact HP

theorem send_step (p : Dev nD) {i j : ℕ} (hi : i = p.val) (hj : j = p.val + 1) {b : BitVec 1} (hb : b = 1#1 ↔ p ≠ c)
    {n : b = 1#1 → Dev nD} {dst : b = 1#1 → Memref sig .tc .vmem S1024x2 .bf16} {qs : DmaSem sig} {qr : b = 1#1 → DmaSem sig}
    {h1 : (accM : Memref sig .tc .vmem S1024x2 .bf16).view.WordExact} {h2 : ∀ h, (dst h).view.WordExact}
    {hsc : ∀ h, (dst h).view.ref.isScScratch = false}
    {h3 : ∀ h, DmaTarget.Typed (.vmem : Space) (.dma (qr h)) (.remote (n h : Thread nD τ) (dst h) (.dma qs) (hsc h))}
    {R : PR F α} {P : sProp 𝕄} {Q : α → sProp 𝕄}
    (hn : ∀ h, (n h).val = p.val) (hdst : ∀ h, dst h = rowM c) (hqs : qs = sendS p) (hqr : ∀ h, qr h = recvS c)
    (hnext : iprop(records m ρ K ∗ sendSt m ρ c j ∗ P) ⊢ runs c R Q) :
    iprop(records m ρ K ∗ sendSt m ρ c i ∗ P)
      ⊢ runs c (dite (b = 1#1) (fun h => .op (.enqueueDma accM (.remote (n h : Thread nD τ) (dst h) (.dma qs) (hsc h)) (.dma (qr h)) h1 (h2 h) (h3 h)) fun _ => R)
        fun _ => R) Q := by
  rw [runs_eq] at hnext ⊢
  iintro ⟨#HR, H, HP⟩
  iapply (wp_send m ρ K c p hi hj hb n (fun h => Fin.ext (hn h)) dst hdst qs qr hqs hqr h1 h2 hsc h3 (R := fun _ => R) (fun _ => rfl) (fun _ => rfl)) $$ [H]
  · isplitr; · iexact HR
    iexact H
  iintro H
  iapply hnext
  isplitr; · iexact HR
  isplitl [H]; · iexact H
  iexact HP

theorem recv_step (s : Dev nD) {i j : ℕ} (hi : i = s.val) (hj : j = s.val + 1)
    {sp sp' : Space} {sh sh' : Shape} {e e' : EltTy} {src : Memref sig .tc sp sh e} {dst : Memref sig .tc sp' sh' e'}
    {q : DmaSem sig} {h1 : src.view.WordExact} {h2 : dst.view.WordExact}
    {k : PUnit.{1} → PR F α} {P : sProp 𝕄} {Q : α → sProp 𝕄} (hN : dst.view.dmaCredit = NC) (hq : q = recvS s)
    (hnext : iprop(records m ρ K ∗ recvSt m ρ c j ∗ P) ⊢ runs c (k ⟨⟩) Q) :
    iprop(records m ρ K ∗ recvSt m ρ c i ∗ P) ⊢ runs c (.op (.waitDma2 q src dst h1 h2) k) Q := by
  rw [runs_eq] at hnext ⊢
  iintro ⟨#HR, H, HP⟩
  iapply (wp_recv m ρ K c s hi hj hN hq) $$ [H]
  · isplitr; · iexact HR
    iexact H
  iintro H
  iapply hnext
  isplitr; · iexact HR
  isplitl [H]; · iexact H
  iexact HP

theorem done_step (p : Dev nD) {i j : ℕ} (hi : i = p.val) (hj : j = p.val + 1) {b : BitVec 1} (hb : b = 1#1 ↔ p ≠ c)
    {src : b = 1#1 → Memref sig .tc .vmem S1024x2 .bf16} {q : DmaSem sig}
    {h1 : ∀ h, (src h).view.WordExact} {h2 : (accM : Memref sig .tc .vmem S1024x2 .bf16).view.WordExact}
    {R : PR F α} {P : sProp 𝕄} {Q : α → sProp 𝕄} (hq : q = sendS p)
    (hnext : iprop(records m ρ K ∗ doneSt m ρ c j ∗ P) ⊢ runs c R Q) :
    iprop(records m ρ K ∗ doneSt m ρ c i ∗ P)
      ⊢ runs c (dite (b = 1#1) (fun h => .op (.waitDma2 q (src h) accM (h1 h) h2) fun _ => R) fun _ => R) Q := by
  rw [runs_eq] at hnext ⊢
  iintro ⟨#HR, H, HP⟩
  iapply (wp_done m ρ K c p hi hj hb src q hq h1 h2 (R := fun _ => R) (fun _ => rfl) (fun _ => rfl)) $$ [H]
  · isplitr; · iexact HR
    iexact H
  iintro H
  iapply hnext
  isplitr; · iexact HR
  isplitl [H]; · iexact H
  iexact HP

/-- The end of a part: its state is handed to what comes after. -/
theorem end_step {v : α} {A B P : sProp 𝕄} {Q : α → sProp 𝕄} (hP : P ⊢ iprop(B -∗ Q v)) :
    iprop(A ∗ B ∗ P) ⊢ runs c (.ret v) Q := by
  rw [runs_eq, wp_ret]
  iintro ⟨-, HB, HP⟩
  imodintro
  ihave H := hP $$ HP
  iapply H $$ HB

theorem done_whole (dst : Memref sig .tc .vmem S1024x2 .bf16) (h : dst = rowM c) : dst.view.dmaCredit = NC := by
  rw [h]

/-! ## The parts -/

/-- Part 10: the device's own row, and the copies to devices 0 to 8. -/
theorem part10 (v12 : BitVec 32) {Q : _ → sProp 𝕄} :
    iprop(records m ρ K ∗ (accPts m ρ c (leafSh c) ∗ (∃ f, rowPts c c f) ∗ dutyTok ER (recvCell c c) 0 d₀) ∗ sendSt m ρ c 0 ∗ ((cred (tallyAt (recvCell c c) () NC) ∗ sendSt m ρ c 9) -∗ ∀ v, Q v))
      ⊢ wp frame (wpE (defs₀ (F := F)) 𝒱₀ (c : Thread nD τ) none) Set.univ (k0_part10 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c v12) Q := by
  rw [k0_part10_eq_skeleton]
  unfold k0_part10_skel
  simp -zeta -zetaHave only [lift_bind, Prog.pure_eq_ret]
  rw [← runs_eq]
  extract_lets
  refine own_step m ρ K c (slot_eq c ((show ∀ d : Dev nD, k0_off3 d = ![d.val, 0, 0] by decide) c) _)
    (recvS_eq c ((show ∀ d : Dev nD, k0_off2 d = ![d.val] by decide) c) _) ?_
  refine (show _ ⊢ iprop(records m ρ K ∗ sendSt m ρ c 0 ∗ (sendSt m ρ c 9 -∗ ∀ v, Q v)) from ?_).trans ?_
  · iintro ⟨HR, Hc, HS, Hk⟩
    isplitl [HR]; · iexact HR
    isplitl [HS]; · iexact HS
    iintro HS
    iapply Hk
    isplitl [Hc]; · iexact Hc
    iexact HS
  refine send_step m ρ K c (0 : Dev nD) rfl (j := 1) rfl ((show ∀ d : Dev nD, k0_cond1 d = 1#1 ↔ (0 : Dev nD) ≠ d by decide) c)
    (fun h => show k0_dev17 = 0 by decide) (fun h => slot_eq c ((show ∀ d : Dev nD, k0_off5 d = ![d.val, 0, 0] by decide) c) _) rfl
    (fun h => recvS_eq c ((show ∀ d : Dev nD, k0_off4 d = ![d.val] by decide) c) _) ?_
  refine send_step m ρ K c (1 : Dev nD) rfl (j := 2) rfl ((show ∀ d : Dev nD, k0_cond2 d = 1#1 ↔ (1 : Dev nD) ≠ d by decide) c)
    (fun h => show k0_dev18 = 1 by decide) (fun h => slot_eq c ((show ∀ d : Dev nD, k0_off7 d = ![d.val, 0, 0] by decide) c) _) rfl
    (fun h => recvS_eq c ((show ∀ d : Dev nD, k0_off6 d = ![d.val] by decide) c) _) ?_
  refine send_step m ρ K c (2 : Dev nD) rfl (j := 3) rfl ((show ∀ d : Dev nD, k0_cond3 d = 1#1 ↔ (2 : Dev nD) ≠ d by decide) c)
    (fun h => show k0_dev19 = 2 by decide) (fun h => slot_eq c ((show ∀ d : Dev nD, k0_off9 d = ![d.val, 0, 0] by decide) c) _) rfl
    (fun h => recvS_eq c ((show ∀ d : Dev nD, k0_off8 d = ![d.val] by decide) c) _) ?_
  refine send_step m ρ K c (3 : Dev nD) rfl (j := 4) rfl ((show ∀ d : Dev nD, k0_cond4 d = 1#1 ↔ (3 : Dev nD) ≠ d by decide) c)
    (fun h => show k0_dev20 = 3 by decide) (fun h => slot_eq c ((show ∀ d : Dev nD, k0_off11 d = ![d.val, 0, 0] by decide) c) _) rfl
    (fun h => recvS_eq c ((show ∀ d : Dev nD, k0_off10 d = ![d.val] by decide) c) _) ?_
  refine send_step m ρ K c (4 : Dev nD) rfl (j := 5) rfl ((show ∀ d : Dev nD, k0_cond5 d = 1#1 ↔ (4 : Dev nD) ≠ d by decide) c)
    (fun h => show k0_dev21 = 4 by decide) (fun h => slot_eq c ((show ∀ d : Dev nD, k0_off13 d = ![d.val, 0, 0] by decide) c) _) rfl
    (fun h => recvS_eq c ((show ∀ d : Dev nD, k0_off12 d = ![d.val] by decide) c) _) ?_
  refine send_step m ρ K c (5 : Dev nD) rfl (j := 6) rfl ((show ∀ d : Dev nD, k0_cond6 d = 1#1 ↔ (5 : Dev nD) ≠ d by decide) c)
    (fun h => show k0_dev22 = 5 by decide) (fun h => slot_eq c ((show ∀ d : Dev nD, k0_off15 d = ![d.val, 0, 0] by decide) c) _) rfl
    (fun h => recvS_eq c ((show ∀ d : Dev nD, k0_off14 d = ![d.val] by decide) c) _) ?_
  refine send_step m ρ K c (6 : Dev nD) rfl (j := 7) rfl ((show ∀ d : Dev nD, k0_cond7 d = 1#1 ↔ (6 : Dev nD) ≠ d by decide) c)
    (fun h => show k0_dev23 = 6 by decide) (fun h => slot_eq c ((show ∀ d : Dev nD, k0_off17 d = ![d.val, 0, 0] by decide) c) _) rfl
    (fun h => recvS_eq c ((show ∀ d : Dev nD, k0_off16 d = ![d.val] by decide) c) _) ?_
  refine send_step m ρ K c (7 : Dev nD) rfl (j := 8) rfl ((show ∀ d : Dev nD, k0_cond8 d = 1#1 ↔ (7 : Dev nD) ≠ d by decide) c)
    (fun h => show k0_dev24 = 7 by decide) (fun h => slot_eq c ((show ∀ d : Dev nD, k0_off19 d = ![d.val, 0, 0] by decide) c) _) rfl
    (fun h => recvS_eq c ((show ∀ d : Dev nD, k0_off18 d = ![d.val] by decide) c) _) ?_
  refine send_step m ρ K c (8 : Dev nD) rfl (j := 9) rfl ((show ∀ d : Dev nD, k0_cond9 d = 1#1 ↔ (8 : Dev nD) ≠ d by decide) c)
    (fun h => show k0_dev25 = 8 by decide) (fun h => slot_eq c ((show ∀ d : Dev nD, k0_off21 d = ![d.val, 0, 0] by decide) c) _) rfl
    (fun h => recvS_eq c ((show ∀ d : Dev nD, k0_off20 d = ![d.val] by decide) c) _) ?_
  refine end_step c ?_
  iintro Hk HS
  iapply Hk $$ HS

/-- Part 11: the copies to devices 9 to 15; then rows 0 and 1 arrive. -/
theorem part11 (v12 : BitVec 32) (v : BitVec 1) {Q : _ → sProp 𝕄} :
    iprop(records m ρ K ∗ sendSt m ρ c 9 ∗ bigSep Finset.univ (recvIn (F := F) c) ∗ (((bigSep Finset.univ (sendOut (F := F) c)) ∗ recvSt m ρ c 2) -∗ Q ⟨⟩))
      ⊢ wp frame (wpE (defs₀ (F := F)) 𝒱₀ (c : Thread nD τ) none) Set.univ (k0_part11 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c v12 v) Q := by
  rw [k0_part11_eq_skeleton]
  unfold k0_part11_skel
  simp -zeta -zetaHave only [lift_bind, Prog.pure_eq_ret]
  rw [← runs_eq]
  extract_lets
  refine send_step m ρ K c (9 : Dev nD) rfl (j := 10) rfl ((show ∀ d : Dev nD, k0_cond10 d = 1#1 ↔ (9 : Dev nD) ≠ d by decide) c)
    (fun h => show k0_dev26 = 9 by decide) (fun h => slot_eq c ((show ∀ d : Dev nD, k0_off23 d = ![d.val, 0, 0] by decide) c) _) rfl
    (fun h => recvS_eq c ((show ∀ d : Dev nD, k0_off22 d = ![d.val] by decide) c) _) ?_
  refine send_step m ρ K c (10 : Dev nD) rfl (j := 11) rfl ((show ∀ d : Dev nD, k0_cond11 d = 1#1 ↔ (10 : Dev nD) ≠ d by decide) c)
    (fun h => show k0_dev27 = 10 by decide) (fun h => slot_eq c ((show ∀ d : Dev nD, k0_off25 d = ![d.val, 0, 0] by decide) c) _) rfl
    (fun h => recvS_eq c ((show ∀ d : Dev nD, k0_off24 d = ![d.val] by decide) c) _) ?_
  refine send_step m ρ K c (11 : Dev nD) rfl (j := 12) rfl ((show ∀ d : Dev nD, k0_cond12 d = 1#1 ↔ (11 : Dev nD) ≠ d by decide) c)
    (fun h => show k0_dev28 = 11 by decide) (fun h => slot_eq c ((show ∀ d : Dev nD, k0_off27 d = ![d.val, 0, 0] by decide) c) _) rfl
    (fun h => recvS_eq c ((show ∀ d : Dev nD, k0_off26 d = ![d.val] by decide) c) _) ?_
  refine send_step m ρ K c (12 : Dev nD) rfl (j := 13) rfl ((show ∀ d : Dev nD, k0_cond13 d = 1#1 ↔ (12 : Dev nD) ≠ d by decide) c)
    (fun h => show k0_dev29 = 12 by decide) (fun h => slot_eq c ((show ∀ d : Dev nD, k0_off29 d = ![d.val, 0, 0] by decide) c) _) rfl
    (fun h => recvS_eq c ((show ∀ d : Dev nD, k0_off28 d = ![d.val] by decide) c) _) ?_
  refine send_step m ρ K c (13 : Dev nD) rfl (j := 14) rfl ((show ∀ d : Dev nD, k0_cond14 d = 1#1 ↔ (13 : Dev nD) ≠ d by decide) c)
    (fun h => show k0_dev30 = 13 by decide) (fun h => slot_eq c ((show ∀ d : Dev nD, k0_off31 d = ![d.val, 0, 0] by decide) c) _) rfl
    (fun h => recvS_eq c ((show ∀ d : Dev nD, k0_off30 d = ![d.val] by decide) c) _) ?_
  refine send_step m ρ K c (14 : Dev nD) rfl (j := 15) rfl ((show ∀ d : Dev nD, k0_cond15 d = 1#1 ↔ (14 : Dev nD) ≠ d by decide) c)
    (fun h => show k0_dev31 = 14 by decide) (fun h => slot_eq c ((show ∀ d : Dev nD, k0_off33 d = ![d.val, 0, 0] by decide) c) _) rfl
    (fun h => recvS_eq c ((show ∀ d : Dev nD, k0_off32 d = ![d.val] by decide) c) _) ?_
  refine send_step m ρ K c (15 : Dev nD) rfl (j := 16) rfl ((show ∀ d : Dev nD, k0_cond16 d = 1#1 ↔ (15 : Dev nD) ≠ d by decide) c)
    (fun h => show k0_dev32 = 15 by decide) (fun h => slot_eq c ((show ∀ d : Dev nD, k0_off35 d = ![d.val, 0, 0] by decide) c) _) rfl
    (fun h => recvS_eq c ((show ∀ d : Dev nD, k0_off34 d = ![d.val] by decide) c) _) ?_
  refine (show _ ⊢ iprop(records m ρ K ∗ recvSt m ρ c 0 ∗ (recvSt m ρ c 2 -∗ Q ⟨⟩)) from ?_).trans ?_
  · unfold sendSt recvSt
    rw [owR_end, above_end, below_end, above_zero, below_zero, bigSep_empty, bigSep_empty]
    iintro ⟨HR, ⟨Ho, -, HB⟩, HI, Hk⟩
    isplitl [HR]; · iexact HR
    isplitl [Ho HI]
    · isplitl [Ho]; · iexact Ho
      isplitl [HI]; · iexact HI
      iempintro
    iintro HS
    iapply Hk
    isplitl [HB]; · iexact HB
    iexact HS
  refine recv_step m ρ K c (0 : Dev nD) rfl (j := 1) rfl rfl rfl ?_
  refine recv_step m ρ K c (1 : Dev nD) rfl (j := 2) rfl rfl rfl ?_
  exact end_step c (BI.Entails.refl _)

/-- Part 12: rows 2 to 7 arrive. -/
theorem part12 {Q : _ → sProp 𝕄} :
    iprop(records m ρ K ∗ recvSt m ρ c 2 ∗ (recvSt m ρ c 8 -∗ Q ⟨⟩))
      ⊢ wp frame (wpE (defs₀ (F := F)) 𝒱₀ (c : Thread nD τ) none) Set.univ (k0_part12 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6) Q := by
  rw [k0_part12_eq_skeleton]
  unfold k0_part12_skel
  simp -zeta -zetaHave only [lift_bind, Prog.pure_eq_ret]
  rw [← runs_eq]
  extract_lets
  refine recv_step m ρ K c (2 : Dev nD) rfl (j := 3) rfl rfl rfl ?_
  refine recv_step m ρ K c (3 : Dev nD) rfl (j := 4) rfl rfl rfl ?_
  refine recv_step m ρ K c (4 : Dev nD) rfl (j := 5) rfl rfl rfl ?_
  refine recv_step m ρ K c (5 : Dev nD) rfl (j := 6) rfl rfl rfl ?_
  refine recv_step m ρ K c (6 : Dev nD) rfl (j := 7) rfl rfl rfl ?_
  refine recv_step m ρ K c (7 : Dev nD) rfl (j := 8) rfl rfl rfl ?_
  exact end_step c (BI.Entails.refl _)

/-- Part 13: rows 8 to 14 arrive. -/
theorem part13 {Q : _ → sProp 𝕄} :
    iprop(records m ρ K ∗ recvSt m ρ c 8 ∗ (recvSt m ρ c 15 -∗ Q ⟨⟩))
      ⊢ wp frame (wpE (defs₀ (F := F)) 𝒱₀ (c : Thread nD τ) none) Set.univ (k0_part13 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6) Q := by
  rw [k0_part13_eq_skeleton]
  unfold k0_part13_skel
  simp -zeta -zetaHave only [lift_bind, Prog.pure_eq_ret]
  rw [← runs_eq]
  extract_lets
  refine recv_step m ρ K c (8 : Dev nD) rfl (j := 9) rfl rfl rfl ?_
  refine recv_step m ρ K c (9 : Dev nD) rfl (j := 10) rfl rfl rfl ?_
  refine recv_step m ρ K c (10 : Dev nD) rfl (j := 11) rfl rfl rfl ?_
  refine recv_step m ρ K c (11 : Dev nD) rfl (j := 12) rfl rfl rfl ?_
  refine recv_step m ρ K c (12 : Dev nD) rfl (j := 13) rfl rfl rfl ?_
  refine recv_step m ρ K c (13 : Dev nD) rfl (j := 14) rfl rfl rfl ?_
  refine recv_step m ρ K c (14 : Dev nD) rfl (j := 15) rfl rfl rfl ?_
  exact end_step c (BI.Entails.refl _)

/-- Part 14: row 15 arrives; then the copies to devices 0 to 8 have completed. -/
theorem part14 (v12 : BitVec 32) {Q : _ → sProp 𝕄} :
    iprop(records m ρ K ∗ recvSt m ρ c 15 ∗ bigSep Finset.univ (doneIn (F := F) c) ∗ ((bigSep Finset.univ (recvOut m ρ c) ∗ doneSt m ρ c 9) -∗ ∀ v, Q v))
      ⊢ wp frame (wpE (defs₀ (F := F)) 𝒱₀ (c : Thread nD τ) none) Set.univ (k0_part14 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 c v12) Q := by
  rw [k0_part14_eq_skeleton]
  unfold k0_part14_skel
  simp -zeta -zetaHave only [lift_bind, Prog.pure_eq_ret]
  rw [← runs_eq]
  extract_lets
  refine recv_step m ρ K c (15 : Dev nD) rfl (j := 16) rfl rfl rfl ?_
  refine (show _ ⊢ iprop(records m ρ K ∗ doneSt m ρ c 0 ∗ (doneSt m ρ c 9 -∗ ∀ v, Q v)) from ?_).trans ?_
  · unfold recvSt doneSt
    rw [above_end, below_end, above_zero, below_zero, bigSep_empty, bigSep_empty]
    iintro ⟨HR, ⟨Ho, -, HB⟩, HI, Hk⟩
    isplitl [HR]; · iexact HR
    isplitl [Ho HI]
    · isplitl [Ho]; · iexact Ho
      isplitl [HI]; · iexact HI
      iempintro
    iintro HS
    iapply Hk
    isplitl [HB]; · iexact HB
    iexact HS
  refine done_step m ρ K c (0 : Dev nD) rfl (j := 1) rfl ((show ∀ d : Dev nD, k0_cond17 d = 1#1 ↔ (0 : Dev nD) ≠ d by decide) c) rfl ?_
  refine done_step m ρ K c (1 : Dev nD) rfl (j := 2) rfl ((show ∀ d : Dev nD, k0_cond18 d = 1#1 ↔ (1 : Dev nD) ≠ d by decide) c) rfl ?_
  refine done_step m ρ K c (2 : Dev nD) rfl (j := 3) rfl ((show ∀ d : Dev nD, k0_cond19 d = 1#1 ↔ (2 : Dev nD) ≠ d by decide) c) rfl ?_
  refine done_step m ρ K c (3 : Dev nD) rfl (j := 4) rfl ((show ∀ d : Dev nD, k0_cond20 d = 1#1 ↔ (3 : Dev nD) ≠ d by decide) c) rfl ?_
  refine done_step m ρ K c (4 : Dev nD) rfl (j := 5) rfl ((show ∀ d : Dev nD, k0_cond21 d = 1#1 ↔ (4 : Dev nD) ≠ d by decide) c) rfl ?_
  refine done_step m ρ K c (5 : Dev nD) rfl (j := 6) rfl ((show ∀ d : Dev nD, k0_cond22 d = 1#1 ↔ (5 : Dev nD) ≠ d by decide) c) rfl ?_
  refine done_step m ρ K c (6 : Dev nD) rfl (j := 7) rfl ((show ∀ d : Dev nD, k0_cond23 d = 1#1 ↔ (6 : Dev nD) ≠ d by decide) c) rfl ?_
  refine done_step m ρ K c (7 : Dev nD) rfl (j := 8) rfl ((show ∀ d : Dev nD, k0_cond24 d = 1#1 ↔ (7 : Dev nD) ≠ d by decide) c) rfl ?_
  refine done_step m ρ K c (8 : Dev nD) rfl (j := 9) rfl ((show ∀ d : Dev nD, k0_cond25 d = 1#1 ↔ (8 : Dev nD) ≠ d by decide) c) rfl ?_
  refine end_step c ?_
  iintro Hk HS
  iapply Hk $$ HS

end Cert.KernelIdealProof

end
-- ==== Proof.KernelIdealBody.lean ====
/-
The whole body of a device: what it starts from, what it ends with, and its run from the one to the other.
-/
module

public import proofs.«01_k».proof.Proof.KernelIdealExchange

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × (Fin 34 ⊕ Unit) → ℕ) (c : Dev nD)
variable {α : Type}

/-! ## What a device starts from -/

/-- The duties device `c` pays: one at each barrier, its four block copies, the two ends of its copies to the others. -/
def payToks : sProp 𝕄 :=
  iprop((bigSep Finset.univ fun p : Dev nD => dutyTok ER (barCell p) 0 c)
    ∗ (dutyTok ER (copyCell c 0) 0 d₀ ∗ dutyTok ER (copyCell c 0) 1 d₀ ∗ dutyTok ER (copyCell c 1) 0 d₀ ∗ dutyTok ER (copyCell c 1) 1 d₀)
    ∗ (bigSep Finset.univ fun p : Dev nD => dutyTok ER (sendCell c p) 0 d₀)
    ∗ bigSep Finset.univ fun p : Dev nD => dutyTok ER (recvCell p c) 0 d₀)

/-- Its positions at its own cells. -/
def posns : sProp 𝕄 :=
  iprop(atPos ER (barCell c) 0 ∅ 0 ∗ (atPos ER (copyCell c 0) 0 ∅ 0 ∗ atPos ER (copyCell c 1) 0 ∅ 0)
    ∗ (bigSep Finset.univ fun p : Dev nD => atPos ER (sendCell c p) 0 ∅ 0)
    ∗ bigSep Finset.univ fun s : Dev nD => atPos ER (recvCell c s) 0 ∅ 0)

/-- The credits the others' work at its cells brings it. -/
def credits : sProp 𝕄 :=
  iprop(cred (tallyAt (barCell c) () 16) ∗ bigSep (Finset.univ.erase c) fun s : Dev nD => cred (tallyAt (recvCell c s) () NC))

/-- The whole weight of the device. -/
def wWhole : sProp 𝕄 := ((c : Thread nD τ).loc main_arg1) ↦{fullShare} wv m c

/-- Its counters, all at zero. -/
def zeros : sProp 𝕄 :=
  iprop(semVal (barCell c) 0 ∗ (semVal (copyCell c 0) 0 ∗ semVal (copyCell c 1) 0)
    ∗ (bigSep Finset.univ fun p : Dev nD => semVal (sendCell c p) 0) ∗ bigSep Finset.univ fun s : Dev nD => semVal (recvCell c s) 0)

def startAt : sProp 𝕄 :=
  iprop(levAts L lv ∗ (buf c cc0_stg0_0 (xv m ρ c) ∗ buf c cc0_stg1_0 (labv m ρ c))
    ∗ ((∃ f, buf c cc0_scratch0 f) ∗ (∃ f, buf c cc0_scratch1 f) ∗ (∃ f, buf c cc0_scratch2 f) ∗ ∃ f, buf c cc0_scratch3 f)
    ∗ wWhole m c ∗ payToks (F := F) c ∗ posns (F := F) c ∗ credits (F := F) c ∗ owesSome c (O₀ c))

def endAt : sProp 𝕄 :=
  iprop((buf c cc0_stg0_0 (xv m ρ c) ∗ buf c cc0_stg1_0 (labv m ρ c))
    ∗ ((∃ f, buf c cc0_scratch0 f) ∗ (∃ f, buf c cc0_scratch1 f) ∗ (∃ f, buf c cc0_scratch2 f) ∗ ∃ f, buf c cc0_scratch3 f)
    ∗ wWhole m c ∗ zeros (F := F) c ∗ owesSome c 0)

/-- What is settled before the exchange and kept to the end. -/
def kept : sProp 𝕄 :=
  iprop((buf c cc0_stg0_0 (xv m ρ c) ∗ buf c cc0_stg1_0 (labv m ρ c)) ∗ (∃ f, buf c cc0_scratch0 f) ∗ (∃ f, buf c cc0_scratch1 f)
    ∗ wWhole m c ∗ semVal (barCell c) 0 ∗ semVal (copyCell c 0) 0 ∗ semVal (copyCell c 1) 0)

/-! ## Between the stages -/

theorem row_some (p c : Dev nD) (f : Buf (Elt F) ((c : Thread nD τ).loc cc0_scratch3)) : (rowPts c p f : sProp 𝕄) ⊢ iprop(∃ f, rowPts c p f) := by
  iintro H
  iexists f
  iexact H

/-- The table cut into its rows, one for each device's copy. -/
theorem sig_start :
    iprop(owesSome c (O₀ c) ∗ (bigSep Finset.univ fun p : Dev nD => dutyTok ER (barCell p) 0 c) ∗ (∃ f, buf c cc0_scratch3 f))
      ⊢ (sigSt c 0 : sProp 𝕄) := by
  unfold sigSt O₀ buf
  rw [above_zero, bigSep_sep']
  iintro ⟨Ho, Ht, ⟨%f, Hf⟩⟩
  ihave Hf := (Entails.of_eq (comm_rows c f)) $$ Hf
  isplitl [Ho]; · iexact Ho
  isplitl [Ht]; · iexact Ht
  have h : (bigSep Finset.univ fun p : Dev nD => rowPts c p f : sProp 𝕄) ⊢ bigSep Finset.univ fun p : Dev nD => iprop(∃ f, rowPts c p f) :=
    bigSep_mono fun p _ => row_some p c f
  iapply h $$ Hf

/-- Everything for the sixteen copies: the device's own, and the others'. -/
theorem send_start :
    iprop(owesSome c (owR c Finset.univ) ∗ accPts m ρ c fullShare ∗ bigSep Finset.univ (barPay (F := F) c)
        ∗ (bigSep Finset.univ fun p : Dev nD => dutyTok ER (sendCell c p) 0 d₀) ∗ bigSep Finset.univ fun p : Dev nD => dutyTok ER (recvCell p c) 0 d₀)
      ⊢ iprop((accPts m ρ c (leafSh c) ∗ (∃ f, rowPts c c f) ∗ dutyTok ER (recvCell c c) 0 d₀) ∗ sendSt m ρ c 0) := by
  unfold sendSt
  rw [above_zero, below_zero, bigSep_empty, acc_leaves, bigSep_univ_at _ c, bigSep_univ_at _ c, bigSep_univ_at _ c, bigSep_univ_at _ c, bigSep_univ_at _ c,
    show sendIn m ρ c c = iprop(emp) from if_pos rfl]
  have h (p : Dev nD) (hp : p ∈ Finset.univ.erase c) : iprop(dutyTok ER (sendCell c p) 0 d₀ ∗ dutyTok ER (recvCell p c) 0 d₀ ∗ accPts m ρ c (leafSh p) ∗ barPay (F := F) c p) ⊢ (sendIn m ρ c p : sProp 𝕄) :=
    Entails.of_eq (show _ = sendIn m ρ c p from (if_neg (Finset.ne_of_mem_erase hp)).symm)
  have h' : (bigSep (Finset.univ.erase c) _ : sProp 𝕄) ⊢ bigSep (Finset.univ.erase c) (sendIn m ρ c) := bigSep_mono h
  rw [bigSep_sep', bigSep_sep', bigSep_sep'] at h'
  iintro ⟨Ho, ⟨Ha, HA⟩, ⟨Hb, HB⟩, ⟨-, HS⟩, ⟨Hr, HR⟩⟩
  isplitl [Ha Hb Hr]
  · isplitl [Ha]; · iexact Ha
    isplitl [Hb]; · unfold barPay; iexact Hb
    iexact Hr
  isplitl [Ho]; · iexact Ho
  isplitl [HA HB HS HR]
  · isplitr; · iempintro
    iapply h'
    isplitl [HS]; · iexact HS
    isplitl [HR]; · iexact HR
    isplitl [HA]; · iexact HA
    iexact HB
  iempintro

theorem recv_start :
    iprop(cred (tallyAt (recvCell c c) () NC) ∗ (bigSep (Finset.univ.erase c) fun s : Dev nD => cred (tallyAt (recvCell c s) () NC))
        ∗ bigSep Finset.univ fun s : Dev nD => atPos ER (recvCell c s) 0 ∅ 0)
      ⊢ bigSep Finset.univ (recvIn (F := F) c) := by
  unfold recvIn
  rw [bigSep_sep', bigSep_univ_at (fun s : Dev nD => (cred (tallyAt (recvCell c s) () NC) : sProp 𝕄)) c]
  iintro ⟨H1, H2, H3⟩
  isplitl [H1 H2]
  · isplitl [H1]; · iexact H1
    iexact H2
  iexact H3

theorem done_start :
    iprop(bigSep Finset.univ (sendOut (F := F) c) ∗ bigSep Finset.univ fun p : Dev nD => atPos ER (sendCell c p) 0 ∅ 0)
      ⊢ bigSep Finset.univ (doneIn (F := F) c) := by
  unfold doneIn
  rw [bigSep_sep']

/-- The rows that arrived are the table, and the pair's shares are whole again. -/
theorem exchange_end :
    iprop(bigSep Finset.univ (recvOut m ρ c) ∗ bigSep Finset.univ (doneOut m ρ c))
      ⊢ iprop(buf c cc0_scratch3 (commv m ρ) ∗ (∃ f, buf c cc0_scratch2 f)
          ∗ (bigSep Finset.univ fun p : Dev nD => semVal (sendCell c p) 0) ∗ bigSep Finset.univ fun s : Dev nD => semVal (recvCell c s) 0) := by
  have hacc : (iprop((bigSep Finset.univ fun s : Dev nD => if s = c then accPts m ρ c (leafSh c) else iprop(emp))
      ∗ bigSep Finset.univ fun p : Dev nD => if p = c then iprop(emp) else accPts m ρ c (leafSh p)) : sProp 𝕄) ⊢ iprop(∃ f, buf c cc0_scratch2 f) := by
    rw [← bigSep_sep']
    have h (p : Dev nD) : (iprop((if p = c then accPts m ρ c (leafSh c) else iprop(emp)) ∗ (if p = c then iprop(emp) else accPts m ρ c (leafSh p))) : sProp 𝕄) ⊢ accPts m ρ c (leafSh p) := by
      by_cases hp : p = c
      · subst hp
        rw [if_pos rfl, if_pos rfl]
        iintro ⟨H, -⟩
        iexact H
      · rw [if_neg hp, if_neg hp]
        iintro ⟨-, H⟩
        iexact H
    have h' : (accPts m ρ c fullShare : sProp 𝕄) ⊢ iprop(∃ f, buf c cc0_scratch2 f) := by
      unfold accPts buf
      rw [acc_set]
      iintro H
      iexists (accv m ρ c)
      iexact H
    exact (bigSep_mono fun p _ => h p).trans ((Entails.of_eq (acc_leaves m ρ c).symm).trans h')
  unfold recvOut doneOut recvPay
  rw [bigSep_sep', bigSep_sep', bigSep_sep', ← comm_rows]
  iintro ⟨⟨⟨H1, H2⟩, H3⟩, ⟨H4, H5⟩⟩
  isplitl [H1]; · unfold buf; iexact H1
  isplitl [H2 H4]
  · iapply hacc
    isplitl [H2]; · iexact H2
    iexact H4
  isplitl [H5]; · iexact H5
  iexact H3

/-- A slot's cell, its two copies done, closes. -/
theorem copy_close (s : Fin 2) :
    iprop(records m ρ K ∗ atPos ER (copyCell c s) 2 ∅ 0) ⊢ iprop(|={Set.univ}=> semVal (copyCell c s) 0) := by
  iintro ⟨HR, Hat⟩
  ihave Hr := (rec_copy m ρ K c s) $$ HR
  icases Hr with ⟨HI, -⟩
  iapply (Rounds.cell_close ER (xRd m ρ) (Set.mem_univ (K (c, iCopy s))) (fun h => h) (R := 2) (duties_copy_later m ρ c s))
  isplitl [HI]; · iexact HI
  iexact Hat

/-! ## The body -/

/-- The end of part 15: the table read, everything gathered. -/
theorem table_load {hl : (commM : Memref sig .tc .vmem S16x1024x2 .bf16).view.LoadsAt (Rect.unit (s := S16x1024x2) ![0, 0, 0] S16x1024x2.size inb_S16x1024x2_S16x1024x2_0_0_0).toLoadRect}
    {Q : _ → sProp 𝕄} :
    iprop(records m ρ K ∗ doneSt m ρ c 16 ∗ (bigSep Finset.univ (recvOut m ρ c) ∗ kept m ρ c ∗ (endAt m ρ c -∗ Q (k0_pay18 (commv m ρ)))))
      ⊢ runs c (.op (.load commM (Rect.unit (s := S16x1024x2) ![0, 0, 0] S16x1024x2.size inb_S16x1024x2_S16x1024x2_0_0_0).toLoadRect hl)
          fun v => .ret (k0_pay18 v)) Q := by
  rw [runs_eq]
  unfold doneSt
  rw [below_end]
  iintro ⟨-, ⟨Ho, -, Hd⟩, Hr, Hkept, Hk⟩
  ihave H := (exchange_end m ρ c) $$ [Hr Hd]
  · isplitl [Hr]; · iexact Hr
    iexact Hd
  unfold buf
  icases H with ⟨Hc, Ha, HzS, HzR⟩
  iapply (wp_load_at c (M := commM) Finset.univ fullShare (commv m ρ) (v := commv m ρ) (Finset.subset_univ _)
    (Memref.readAt_unit_zero (Elt F) cc0_scratch3 zero3 _ _)) $$ Hc
  iintro Hc
  rw [wp_ret]
  imodintro
  iapply Hk
  unfold kept endAt zeros buf
  icases Hkept with ⟨Hin, Hb, Hw, HW, HzB, Hz0, Hz1⟩
  isplitl [Hin]; · iexact Hin
  isplitl [Hb Hw Ha Hc]
  · isplitl [Hb]; · iexact Hb
    isplitl [Hw]; · iexact Hw
    isplitl [Ha]; · iexact Ha
    iexists _
    iexact Hc
  isplitl [HW]; · iexact HW
  isplitl [HzB Hz0 Hz1 HzS HzR]
  · isplitl [HzB]; · iexact HzB
    isplitl [Hz0 Hz1]
    · isplitl [Hz0]; · iexact Hz0
      iexact Hz1
    isplitl [HzS]; · iexact HzS
    iexact HzR
  iexact Ho

set_option maxHeartbeats 1600000 in
/-- Parts 1 to 14 in order, the last completions, and the table read. -/
theorem part15 {Q : _ → sProp 𝕄} :
    iprop(records m ρ K ∗ startAt m ρ c ∗ ((endAt m ρ c) -∗ Q (k0_pay18 (commv m ρ))))
      ⊢ wp frame (wpE (defs₀ (F := F)) 𝒱₀ (c : Thread nD τ) none) Set.univ (k0_part15 (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6) Q := by
  rw [k0_part15_eq_skeleton]
  unfold k0_part15_skel startAt payToks posns credits wWhole
  iintro ⟨#HR, ⟨#Hlev, ⟨Hx, Hl⟩, ⟨Hb, ⟨%f1, Hw⟩, Ha, Hc⟩, HW, ⟨HtB, ⟨Ht00, Ht01, Ht10, Ht11⟩, HtS, HtR⟩, ⟨HaB, ⟨Ha0, Ha1⟩, HaS, HaR⟩, ⟨HcB, HcR⟩, Ho⟩, Hk⟩
  ihave Hw := (show buf c cc0_scratch1 f1 ⊢ _ from halves_split c f1) $$ Hw
  icases Hw with ⟨Hw0, Hw1⟩
  ihave HW := ((w_halves m c).1) $$ HW
  icases HW with ⟨HW0, HW1⟩
  ihave #Hr0 := (rec_copy m ρ K c 0) $$ HR
  ihave #Hr1 := (rec_copy m ρ K c 1) $$ HR
  icases Hr1 with ⟨-, #Hr1⟩
  rw [wp_bind]
  iapply (part1 m ρ K c)
  isplitr; · iexact HR
  isplitl [Hx]; · iexact Hx
  isplitl [Hl]; · iexact Hl
  isplitl [Hb]; · iexact Hb
  isplitl [HW0]; · unfold wShare; iexact HW0
  isplitl [Hw0]; · iexists f1; iexact Hw0
  isplitl [Ht00]; · iexact Ht00
  iintro ⟨Hx, Hl, Hb, Hcp⟩
  iintro %v12
  dsimp -zeta -zetaHave only
  rw [wp_bind]
  iapply (part2 m ρ K c)
  isplitr; · iexact HR
  isplitr; · iexact Hlev
  isplitl [HW1 Hw1 Ht10]
  · isplitl [HW1]; · unfold wShare; iexact HW1
    isplitl [Hw1]; · iexists f1; iexact Hw1
    isplitl [Ht10]; · iexact Ht10
    iexact Hr1
  isplitl [Hcp Ha0]
  · isplitl [Hcp]; · iexact Hcp
    iexact Ha0
  isplitl [Ho]; · iexact Ho
  isplitl [Hb]; · iexact Hb
  iintro ⟨Hcp, ⟨Ha0, Hr0, HW0, Hw0⟩, Ho, Hb⟩
  dsimp -zeta -zetaHave only
  rw [wp_bind]
  iapply (part3 m ρ K c)
  isplitr; · iexact HR
  isplitr; · iexact Hlev
  isplitl [HW0 Hw0 Ht01 Hr0]
  · isplitl [HW0]; · iexact HW0
    isplitl [Hw0]; · iexact Hw0
    isplitl [Ht01]; · iexact Ht01
    iexact Hr0
  isplitl [Hcp Ha1]
  · isplitl [Hcp]; · iexact Hcp
    iexact Ha1
  isplitl [Ho]; · iexact Ho
  isplitl [Hb]; · iexact Hb
  iintro ⟨Hcp, ⟨Ha1, Hr1', HW1, Hw1⟩, Ho, Hb⟩
  dsimp -zeta -zetaHave only
  rw [wp_bind]
  iapply (part4 m ρ K c)
  isplitr; · iexact HR
  isplitr; · iexact Hlev
  isplitl [HW1 Hw1 Ht11 Hr1']
  · isplitl [HW1]; · iexact HW1
    isplitl [Hw1]; · iexact Hw1
    isplitl [Ht11]; · iexact Ht11
    iexact Hr1'
  isplitl [Hcp Ha0]
  · isplitl [Hcp]; · iexact Hcp
    iexact Ha0
  isplitl [Ho]; · iexact Ho
  isplitl [Hb]; · iexact Hb
  iintro ⟨Hcp, ⟨Ha0, -, HW0, Hw0⟩, Ho, Hb⟩
  dsimp -zeta -zetaHave only
  rw [wp_bind]
  iapply (part5 m ρ K c)
  isplitr; · iexact HR
  isplitr; · iexact Hlev
  isplitl [Hcp Ha1]
  · isplitl [Hcp]; · iexact Hcp
    iexact Ha1
  isplitl [Ho]; · iexact Ho
  isplitl [Hb]; · iexact Hb
  isplitl [Ha]; · iexact Ha
  iintro ⟨⟨Ha1, HW1, Hw1⟩, Ho, Hb, Hacc⟩
  iintro %v169
  dsimp -zeta -zetaHave only
  -- the weight whole again, its cells closed; the table cut for the handshake
  imod (copy_close m ρ K c 0) $$ [Ha0] with Hz0
  · isplitr; · iexact HR
    iexact Ha0
  imod (copy_close m ρ K c 1) $$ [Ha1] with Hz1
  · isplitr; · iexact HR
    iexact Ha1
  unfold wShare
  ihave HW := ((w_halves m c).2) $$ [HW0 HW1]
  · isplitl [HW0]; · iexact HW0
    iexact HW1
  icases Hw0 with ⟨%g0, Hw0⟩
  icases Hw1 with ⟨%g1, Hw1⟩
  ihave Hw := (show iprop(halfPts c 0 g0 ∗ halfPts c 1 g1) ⊢ iprop(∃ f, buf c cc0_scratch1 f) from halves_join c g0 g1) $$ [Hw0 Hw1]
  · isplitl [Hw0]; · iexact Hw0
    iexact Hw1
  ihave Hst := (sig_start (F := F) c) $$ [Ho HtB Hc]
  · isplitl [Ho]; · iexact Ho
    isplitl [HtB]; · iexact HtB
    iexact Hc
  rw [wp_bind]
  iapply (part6 m ρ K c)
  isplitr; · iexact HR
  isplitl [Hst]; · iexact Hst
  iintro Hst
  iintro %v193
  dsimp -zeta -zetaHave only
  rw [wp_bind]
  iapply (part7 m ρ K c)
  isplitr; · iexact HR
  isplitl [Hst]; · iexact Hst
  iintro Hst
  iintro %v217
  dsimp -zeta -zetaHave only
  rw [wp_bind]
  iapply (part8 m ρ K c)
  isplitr; · iexact HR
  isplitl [Hst]; · iexact Hst
  iintro Hst
  iintro %v241
  dsimp -zeta -zetaHave only
  rw [wp_bind]
  iapply (part9 m ρ K c)
  isplitr; · iexact HR
  isplitl [Hst]; · iexact Hst
  isplitl [HcB HaB]
  · isplitl [HcB]; · iexact HcB
    isplitl [HaB]; · iexact HaB
    iexact Hlev
  iintro ⟨Ho, HzB, Hpay⟩
  ihave Hst := (send_start m ρ c) $$ [Ho Hacc Hpay HtS HtR]
  · isplitl [Ho]; · iexact Ho
    isplitl [Hacc]; · iexact Hacc
    isplitl [Hpay]; · iexact Hpay
    isplitl [HtS]; · iexact HtS
    iexact HtR
  icases Hst with ⟨Hown, Hst⟩
  rw [wp_bind]
  iapply (part10 m ρ K c)
  isplitr; · iexact HR
  isplitl [Hown]; · iexact Hown
  isplitl [Hst]; · iexact Hst
  iintro ⟨Hcc, Hst⟩
  iintro %v296
  ihave Hrin := (recv_start (F := F) c) $$ [Hcc HcR HaR]
  · isplitl [Hcc]; · iexact Hcc
    isplitl [HcR]; · iexact HcR
    iexact HaR
  rw [wp_bind]
  iapply (part11 m ρ K c)
  isplitr; · iexact HR
  isplitl [Hst]; · iexact Hst
  isplitl [Hrin]; · iexact Hrin
  iintro ⟨Hsent, Hst⟩
  ihave Hdin := (done_start (F := F) c) $$ [Hsent HaS]
  · isplitl [Hsent]; · iexact Hsent
    iexact HaS
  rw [wp_bind]
  iapply (part12 m ρ K c)
  isplitr; · iexact HR
  isplitl [Hst]; · iexact Hst
  iintro Hst
  rw [wp_bind]
  iapply (part13 m ρ K c)
  isplitr; · iexact HR
  isplitl [Hst]; · iexact Hst
  iintro Hst
  rw [wp_bind]
  iapply (part14 m ρ K c)
  isplitr; · iexact HR
  isplitl [Hst]; · iexact Hst
  isplitl [Hdin]; · iexact Hdin
  iintro ⟨Hrows, Hst⟩
  iintro %v408
  ihave HP : iprop(records m ρ K ∗ doneSt m ρ c 9 ∗ (bigSep Finset.univ (recvOut m ρ c) ∗ kept m ρ c ∗ (endAt m ρ c -∗ Q (k0_pay18 (commv m ρ))))) $$ [Hst Hrows Hk Hx Hl Hb Hw HW HzB Hz0 Hz1]
  · isplitr; · iexact HR
    isplitl [Hst]; · iexact Hst
    isplitl [Hrows]; · iexact Hrows
    isplitr [Hk]
    · unfold kept wWhole
      isplitl [Hx Hl]
      · isplitl [Hx]; · iexact Hx
        iexact Hl
      isplitl [Hb]; · iexists _; iexact Hb
      isplitl [Hw]; · iexact Hw
      isplitl [HW]; · iexact HW
      isplitl [HzB]; · iexact HzB
      isplitl [Hz0]; · iexact Hz0
      iexact Hz1
    iexact Hk
  iclear HR Hlev Hr0 Hr1
  istop
  simp -zeta -zetaHave only [lift_bind, Prog.pure_eq_ret]
  rw [← runs_eq]
  extract_lets
  refine done_step m ρ K c (9 : Dev nD) rfl (j := 10) rfl ((show ∀ d : Dev nD, k0_cond26 d = 1#1 ↔ (9 : Dev nD) ≠ d by decide) c) rfl ?_
  refine done_step m ρ K c (10 : Dev nD) rfl (j := 11) rfl ((show ∀ d : Dev nD, k0_cond27 d = 1#1 ↔ (10 : Dev nD) ≠ d by decide) c) rfl ?_
  refine done_step m ρ K c (11 : Dev nD) rfl (j := 12) rfl ((show ∀ d : Dev nD, k0_cond28 d = 1#1 ↔ (11 : Dev nD) ≠ d by decide) c) rfl ?_
  refine done_step m ρ K c (12 : Dev nD) rfl (j := 13) rfl ((show ∀ d : Dev nD, k0_cond29 d = 1#1 ↔ (12 : Dev nD) ≠ d by decide) c) rfl ?_
  refine done_step m ρ K c (13 : Dev nD) rfl (j := 14) rfl ((show ∀ d : Dev nD, k0_cond30 d = 1#1 ↔ (13 : Dev nD) ≠ d by decide) c) rfl ?_
  refine done_step m ρ K c (14 : Dev nD) rfl (j := 15) rfl ((show ∀ d : Dev nD, k0_cond31 d = 1#1 ↔ (14 : Dev nD) ≠ d by decide) c) rfl ?_
  refine done_step m ρ K c (15 : Dev nD) rfl (j := 16) rfl ((show ∀ d : Dev nD, k0_cond32 d = 1#1 ↔ (15 : Dev nD) ≠ d by decide) c) rfl ?_
  exact table_load m ρ K c

set_option maxHeartbeats 800000 in
/-- The body, from what a device starts from to what it ends with, the result stored. -/
theorem body_run {Q : _ → sProp 𝕄} (fo : Buf (Elt F) ((c : Thread nD τ).loc cc0_stg2_0)) :
    iprop(records m ρ K ∗ startAt m ρ c ∗ buf c cc0_stg2_0 fo ∗ ((endAt m ρ c ∗ buf c cc0_stg2_0 (outv m ρ)) -∗ Q ⟨⟩))
      ⊢ wp frame (wpE (defs₀ (F := F)) 𝒱₀ (c : Thread nD τ) none) Set.univ (cc0_body (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6) Q := by
  rw [cc0_body_eq_skeleton]
  unfold cc0_body_skel
  iintro ⟨#HR, Hs, Hout, Hk⟩
  rw [wp_bind]
  iapply (part15 m ρ K c)
  isplitr; · iexact HR
  isplitl [Hs]; · iexact Hs
  iintro He
  simp only [Prog.lift, Prog.bind_op, Prog.bind_ret, Prog.pure_eq_ret]
  unfold buf
  iapply (wp_load_at c (M := outM) Finset.univ fullShare fo (v := fo) (Finset.subset_univ _)
    (Memref.readAt_unit_zero (Elt F) cc0_stg2_0 zero2 _ _)) $$ Hout
  iintro Hout
  iapply (wp_store_at c (M := outM) (Rect.unit (s := S1024x1) ![0, 0] S1024x1.size inb_S1024x1_S1024x1_0_0) fo (v := outv m ρ)
    (Memref.write_access_unit_zero_univ (Elt F) cc0_stg2_0 zero2 _ fo _)) $$ Hout
  iintro Hout
  rw [wp_ret]
  imodintro
  iapply Hk
  isplitl [He]; · iexact He
  iexact Hout

end Cert.KernelIdealProof

end
-- ==== Proof.KernelIdealLaunch.lean ====
/-
The launch: the sixteen devices' cells funded, their tokens dealt, and the run of the whole program.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × (Fin 34 ⊕ Unit) → ℕ) (c : Dev nD)

/-! ## The pipeline's data -/

def ghosts : sProp 𝕄 := iprop(∃ K, records m ρ K ∗ payToks (F := F) c ∗ posns (F := F) c)

/-- What a device's call starts from beside its staging buffers. -/
def start : sProp 𝕄 := iprop(ghosts m ρ c ∗ credits (F := F) c ∗ levAts L lv ∗ wWhole m c)

def scratch (F : FTy → Type) [FloatOps F] (c : Dev nD) : sProp (MT nD τ sig Unit (Elt F) ℕ UU ℕ) :=
  iprop((∃ f, buf c cc0_scratch0 f) ∗ (∃ f, buf c cc0_scratch1 f) ∗ (∃ f, buf c cc0_scratch2 f) ∗ ∃ f, buf c cc0_scratch3 f)

def Φ₀ : sProp 𝕄 := iprop(start m ρ c ∗ scratch F c)
def Φ₁ : sProp 𝕄 := iprop(wWhole m c ∗ zeros (F := F) c ∗ scratch F c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => labv m ρ c
    | ⟨2, _⟩ => outv m ρ
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ buf c b f) := by
  unfold owns buf; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ buf c b f)

def bodyPre : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ m c ∗ (dats m ρ 0 c).owesAt () t0_0.succ ∗ stg c cc0_stg0_0 (xv m ρ c) ∗ stg c cc0_stg1_0 (labv m ρ c) ∗ stg c cc0_stg2_0 (outv m ρ))

theorem sound_body :
    bodyPre m ρ c ⊢ wp frame (wpE (defs₀ (F := F)) 𝒱₀ (c : Thread nD τ) none) Set.univ (cc0_body (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6) (fun _ => bodyPost m ρ c) := by
  unfold bodyPre Φ₀ start ghosts scratch
  iintro ⟨⟨⟨⟨%K, #HR, Htok, Hpos⟩, Hcred, #Hlev, HW⟩, Hscr⟩, Ho, ⟨%d0, %g0, %hg0, Hx⟩, ⟨%d1, %g1, %hg1, Hl⟩, ⟨%d2, %g2, %hg2, Hout⟩⟩
  have hx : g0 = xv m ρ c := by rw [hg0]; unfold Dat.before; rw [if_pos (fetch0_0 t0_0)]; rfl
  have hl : g1 = labv m ρ c := by rw [hg1]; unfold Dat.before; rw [if_pos (fetch0_1 t0_0)]; rfl
  subst hx hl
  unfold Dat.owesAt Pipeline.owesWithin
  icases Ho with ⟨%W, %hW, HO⟩
  rw [show (dats m ρ 0 c).owed t0_0.castSucc = O₀ c from rfl]
  iapply (body_run m ρ K c g2)
  isplitr; · iexact HR
  isplitl [Htok Hpos Hcred HW Hscr HO Hx Hl]
  · unfold startAt owesSome
    isplitr; · iexact Hlev
    isplitl [Hx Hl]
    · isplitl [Hx]; · iexact Hx
      iexact Hl
    isplitl [Hscr]; · iexact Hscr
    isplitl [HW]; · iexact HW
    isplitl [Htok]; · iexact Htok
    isplitl [Hpos]; · iexact Hpos
    isplitl [Hcred]; · iexact Hcred
    iexists W
    iexact HO
  isplitl [Hout]; · iexact Hout
  unfold endAt owesSome
  iintro ⟨⟨⟨Hx, Hl⟩, Hscr, HW, Hz, ⟨%W', HO⟩⟩, Hout⟩
  unfold bodyPost Φ₁ scratch Dat.owesAt Pipeline.owesWithin
  rw [show (dats m ρ 0 c).owed t0_0.succ = 0 from rfl]
  isplitl [HW Hz Hscr]
  · isplitl [HW]; · iexact HW
    isplitl [Hz]; · iexact Hz
    iexact Hscr
  isplitl [HO]
  · iexists W'
    isplitr; · ipureintro; exact fun _ _ => Or.inl trivial
    iexact HO
  isplitl [Hx]
  · iexists _; isplitr; · (ipureintro; rfl)
    iexact Hx
  isplitl [Hl]
  · iexists _; isplitr; · (ipureintro; rfl)
    iexact Hl
  iexists _; isplitr; · (ipureintro; rfl)
  iexact Hout

theorem body_prog : defs₀ (F := F) .tc 0 (t0_0, cfg0.slots t0_0) = cc0_body (F := F) xM (Memref.isWhole_whole _) wM (Memref.isWhole_whole _) labM (Memref.isWhole_whole _) outM (Memref.isWhole_whole _) xbM (Memref.isWhole_whole _) wbM (Memref.isWhole_whole _) accM (Memref.isWhole_whole _) commM (Memref.isWhole_whole _) cc0_scratch4 cc0_scratch5 cc0_scratch6 := rfl

theorem sound_prog :
    bodyPre m ρ c ⊢ wp frame (wpE (defs₀ (F := F)) 𝒱₀ (c : Thread nD τ) none) Set.univ (defs₀ (F := F) .tc 0 (t0_0, cfg0.slots t0_0)) (fun _ => bodyPost m ρ c) := by
  have h := sound_body m ρ c
  rw [← runs_eq] at h ⊢
  rw [body_prog]
  exact h

theorem body_obligation : BodyObligation (dats (F := F) m ρ 0 c) (defs₀ (F := F)) 𝒱₀ () Set.univ := fun t => by
  rw [fin_N0 t]
  rw [bigSep_W0, bigSep_W0]
  simp only [owns_buf]
  rw [show (dats m ρ 0 c).Φ t0_0.castSucc = Φ₀ m ρ c from rfl, show (dats m ρ 0 c).Φ t0_0.succ = Φ₁ m c from rfl]
  rw [show (dats m ρ 0 c).after 0 t0_0 = xv m ρ c from rfl, show (dats m ρ 0 c).after 1 t0_0 = labv m ρ c from rfl, show (dats m ρ 0 c).after 2 t0_0 = outv m ρ from rfl]
  have h := sound_prog m ρ c
  unfold bodyPre bodyPost at h
  rw [← runs_eq] at h ⊢
  exact h

/-! ## The cells and their tokens -/

theorem ownSemFacts : Pipeline.OwnSemFacts cfg0.spec osem := by decide

theorem share_eq (w : Fin cfg0.W) : (dats m ρ 0 c).share w = fullShare := by unfold Dat.share; split <;> rfl

theorem csem_injective : Function.Injective csem := by
  rintro (a | _) (b | _) h
  · exact congrArg Sum.inl (Fin.ext (by have := congrArg Fin.val (SemLoc.dma.inj h); exact Nat.add_left_cancel this))
  · exact absurd h (by intro h; cases h)
  · exact absurd h (by intro h; cases h)
  · rfl

theorem kcell_injective : Function.Injective (kcell : Dev nD × (Fin 34 ⊕ Unit) → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- Which duty of a device's own cells: one of its barrier's, a block copy's, a completion's, an arrival's. -/
abbrev Tok : Type := Dev nD ⊕ (Fin 2 × Fin 2) ⊕ Dev nD ⊕ Dev nD
abbrev tokOf (cj : Dev nD × Tok) : GSem nD τ sig × ℕ × Dev nD := match cj.2 with
  | .inl p => (barCell cj.1, 0, p)
  | .inr (.inl sr) => (copyCell cj.1 sr.1, sr.2.val, d₀)
  | .inr (.inr (.inl p)) => (sendCell cj.1 p, 0, d₀)
  | .inr (.inr (.inr s)) => (recvCell cj.1 s, 0, d₀)

/-- The number of a duty's semaphore, with the barrier's past the others, its round and its payer: they tell the duties apart. -/
def tokKey (j : Tok) : ℕ × ℕ × ℕ := match j with
  | .inl p => (0, 0, p.val)
  | .inr (.inl sr) => (3 + sr.1.val, sr.2.val, 0)
  | .inr (.inr (.inl p)) => (5 + p.val, 0, 0)
  | .inr (.inr (.inr s)) => (21 + s.val, 0, 0)
theorem tokKey_injective : Function.Injective tokKey := by
  rintro (a | ⟨a, b⟩ | a | a) (a' | ⟨a', b'⟩ | a' | a') h <;> have h1 := congrArg (fun x : ℕ × ℕ × ℕ => x.1) h <;>
    have h2 := congrArg (fun x : ℕ × ℕ × ℕ => x.2.1) h <;> have h3 := congrArg (fun x : ℕ × ℕ × ℕ => x.2.2) h <;> dsimp only [tokKey] at h1 h2 h3 <;>
    first
    | (exfalso
       (first | have ha : a.val < 2 := a.isLt | have ha : a.val < 16 := a.isLt)
       (first | have ha' : a'.val < 2 := a'.isLt | have ha' : a'.val < 16 := a'.isLt)
       omega)
    | exact congrArg Sum.inl (Fin.ext h3)
    | exact congrArg (fun x => Sum.inr (Sum.inl x)) (Prod.ext (Fin.ext (Nat.add_left_cancel h1)) (Fin.ext h2))
    | exact congrArg (fun x => Sum.inr (Sum.inr (Sum.inl x))) (Fin.ext (Nat.add_left_cancel h1))
    | exact congrArg (fun x => Sum.inr (Sum.inr (Sum.inr x))) (Fin.ext (Nat.add_left_cancel h1))

/-- The key is read off the token. -/
def keyOf (x : GSem nD τ sig × ℕ × Dev nD) : ℕ × ℕ × ℕ := match x.1.2 with
  | .reg _ => (0, x.2.1, x.2.2.val)
  | .dma q => (q.val, x.2.1, x.2.2.val)
theorem keyOf_tokOf (cj : Dev nD × Tok) : keyOf (tokOf cj) = tokKey cj.2 := by
  obtain ⟨c, a | a | a | a⟩ := cj <;> rfl
theorem dev_tokOf (cj : Dev nD × Tok) : (tokOf cj).1.1.1 = cj.1 := by
  obtain ⟨c, a | a | a | a⟩ := cj <;> rfl
theorem tokOf_injective : Function.Injective tokOf := fun x y h =>
  Prod.ext ((dev_tokOf x).symm.trans ((congrArg (fun z : GSem nD τ sig × ℕ × Dev nD => z.1.1.1) h).trans (dev_tokOf y)))
    (tokKey_injective ((keyOf_tokOf x).symm.trans ((congrArg keyOf h).trans (keyOf_tokOf y))))

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

theorem bigSep_unit (Φ : Unit → sProp 𝕄) : bigSep Finset.univ Φ = Φ () := by
  rw [show (Finset.univ : Finset Unit) = {()} from rfl, bigSep_singleton]
theorem bigSep_fin2 (Φ : Fin 2 → sProp 𝕄) : bigSep Finset.univ Φ = iprop(Φ 0 ∗ Φ 1) := bigSep_univ_eq_bigSepL [0, 1] (by decide) (by decide) Φ

/-- The thirty-four own semaphores are the two slots', the sixteen completions' and the sixteen arrivals'. -/
def split34 : (Fin 2 ⊕ Dev nD ⊕ Dev nD) → Fin 34
  | .inl s => ⟨s.val, by omega⟩
  | .inr (.inl p) => ⟨2 + p.val, by have : p.val < 16 := p.isLt; omega⟩
  | .inr (.inr s) => ⟨18 + s.val, by have : s.val < 16 := s.isLt; omega⟩
theorem split34_bijective : Function.Bijective split34 := by decide

theorem bigSep_34 (Φ : Fin 34 → sProp 𝕄) : bigSep Finset.univ Φ
    = iprop((Φ (split34 (.inl 0)) ∗ Φ (split34 (.inl 1))) ∗ (bigSep Finset.univ fun p : Dev nD => Φ (split34 (.inr (.inl p))))
      ∗ bigSep Finset.univ fun s : Dev nD => Φ (split34 (.inr (.inr s)))) := by
  rw [bigSep_univ_equiv (Equiv.ofBijective split34 split34_bijective) Φ, bigSep_univ_sum, bigSep_univ_sum, bigSep_fin2]
  rfl

theorem bigSep_cells (Φ : GSem nD τ sig → sProp 𝕄) : (bigSep Finset.univ fun k : Fin 34 ⊕ Unit => Φ (kcell (c, k)))
    = iprop(((Φ (copyCell c 0) ∗ Φ (copyCell c 1)) ∗ (bigSep Finset.univ fun p : Dev nD => Φ (sendCell c p))
      ∗ bigSep Finset.univ fun s : Dev nD => Φ (recvCell c s)) ∗ Φ (barCell c)) := by
  rw [bigSep_univ_sum, bigSep_unit, bigSep_34,
    ← bigSep_congr (s := Finset.univ) (fun (p : Dev nD) _ => congrArg Φ (kcell_send c p)),
    ← bigSep_congr (s := Finset.univ) (fun (s : Dev nD) _ => congrArg Φ (kcell_recv c s))]
  rfl

/-- The duty tokens of device `c`'s own cells. -/
def toks : sProp 𝕄 :=
  iprop((bigSep Finset.univ fun p : Dev nD => dutyTok ER (barCell c) 0 p)
    ∗ (dutyTok ER (copyCell c 0) 0 d₀ ∗ dutyTok ER (copyCell c 0) 1 d₀ ∗ dutyTok ER (copyCell c 1) 0 d₀ ∗ dutyTok ER (copyCell c 1) 1 d₀)
    ∗ (bigSep Finset.univ fun p : Dev nD => dutyTok ER (sendCell c p) 0 d₀)
    ∗ bigSep Finset.univ fun s : Dev nD => dutyTok ER (recvCell c s) 0 d₀)

def dealt : sProp 𝕄 :=
  iprop((bigSep Finset.univ fun k => roundState ER (xRd m ρ) (kcell (c, k)) 0)
    ∗ (bigSep Finset.univ fun k => iprop(atPos ER (kcell (c, k)) 0 ∅ 0 ∗ reached ER (kcell (c, k)) 0)) ∗ toks (F := F) c)

theorem toks_eq : (bigSep Finset.univ fun j : Tok => dutyTok ER (tokOf (c, j)).1 (tokOf (c, j)).2.1 (tokOf (c, j)).2.2 : sProp 𝕄) = toks c := by
  unfold toks
  rw [bigSep_univ_sum, bigSep_univ_sum, bigSep_univ_sum, bigSep_univ_prod, bigSep_fin2, bigSep_fin2, bigSep_fin2]
  exact congrArg (fun X : sProp 𝕄 => iprop((bigSep Finset.univ fun p : Dev nD => dutyTok ER (barCell c) 0 p) ∗ X ∗ (bigSep Finset.univ fun p : Dev nD => dutyTok ER (sendCell c p) 0 d₀)
    ∗ bigSep Finset.univ fun s : Dev nD => dutyTok ER (recvCell c s) 0 d₀)) (BI.equiv_iff.mp ⟨BI.sep_assoc, BI.sep_assoc'⟩)

theorem fund_all : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (xRd m ρ) allCells allToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems0_eq : (Pipeline.ownSems0 (Ix := Unit) (Name := ℕ) (U := UU) (Lvl := ℕ) (Val := Elt F) (τ := τ) osem c : sProp 𝕄)
    = bigSep Finset.univ fun k : Fin 34 => semVal (kcell (c, Sum.inl k)) 0 := rfl
theorem unscopedSems0_eq : (unscopedSems0 c : sProp 𝕄) = semVal (barCell c) 0 := by
  unfold unscopedSems0; rw [bigSep_eq_bigSepL_of_eq [SemLoc.reg barS] (by decide) (by decide)]; rfl

theorem sems0_eq : (bigSep Finset.univ fun k : Fin 34 ⊕ Unit => semVal (kcell (c, k)) 0 : sProp 𝕄)
    = iprop(Pipeline.ownSems0 (Ix := Unit) (Name := ℕ) (U := UU) (Lvl := ℕ) (Val := Elt F) (τ := τ) osem c ∗ unscopedSems0 c) := by
  rw [ownSems0_eq, unscopedSems0_eq, bigSep_univ_sum, bigSep_unit]
  rfl

theorem core_alloc :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks (F := F) c) := by
  unfold dealt
  iintro ⟨Hos, Hus, Hst, Hat, Htok⟩
  ihave Hv := (Entails.of_eq (sems0_eq (F := F) c).symm) $$ [Hos Hus]
  · isplitl [Hos] <;> iassumption
  imod (show iprop((bigSep Finset.univ fun k => semVal (kcell (c, k)) 0) ∗ bigSep Finset.univ fun k => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem posns_eq : (bigSep Finset.univ fun k : Fin 34 ⊕ Unit => atPos ER (kcell (c, k)) 0 ∅ 0 : sProp 𝕄) ⊢ posns c := by
  rw [bigSep_cells c fun g => (atPos ER g 0 ∅ 0 : sProp 𝕄)]
  unfold posns
  iintro ⟨⟨H1, H2, H3⟩, H4⟩
  isplitl [H4]; · iexact H4
  isplitl [H1]; · iexact H1
  isplitl [H2]; · iexact H2
  iexact H3

theorem ghosts_intro : iprop(records m ρ K ∗ payToks (F := F) c ∗ bigSep Finset.univ fun k : Fin 34 ⊕ Unit => atPos ER (kcell (c, k)) 0 ∅ 0) ⊢ ghosts m ρ c := by
  unfold ghosts
  iintro ⟨HR, HT, HA⟩
  iexists K
  isplitl [HR]; · iexact HR
  isplitl [HT]; · iexact HT
  iapply (posns_eq (F := F) c)
  iexact HA

/-- The tokens dealt: a barrier's one to each device, an arrival's to the device it comes from. -/
theorem toks_around : (bigSep Finset.univ fun c : Dev nD => (toks c : sProp 𝕄)) = bigSep Finset.univ fun c : Dev nD => payToks c := by
  unfold toks payToks
  simp only [bigSep_sep']
  rw [bigSep_univ_comm fun (c p : Dev nD) => (dutyTok ER (barCell c) 0 p : sProp 𝕄),
    bigSep_univ_comm fun (c s : Dev nD) => (dutyTok ER (recvCell c s) 0 d₀ : sProp 𝕄)]

theorem with_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (ghosts m ρ) := by
  rw [bigSep_sep', bigSep_sep', ← bigSep_univ_prod (fun ck : Dev nD × (Fin 34 ⊕ Unit) => iprop(∃ κ : ℕ, cellInv ER (xRd m ρ) κ (kcell ck))),
    bigSep_congr (s := Finset.univ) (fun (c : Dev nD) _ => bigSep_sep' Finset.univ (fun k : Fin 34 ⊕ Unit => (atPos ER (kcell (c, k)) 0 ∅ 0 : sProp 𝕄)) (fun k => reached ER (kcell (c, k)) 0)),
    bigSep_sep', ← bigSep_univ_prod (fun ck : Dev nD × (Fin 34 ⊕ Unit) => (reached ER (kcell ck) 0 : sProp 𝕄)), toks_around]
  iintro ⟨HI, ⟨Hat, #HR⟩, Htok⟩
  ihave HK := (BI.bigSep_exists_pi Finset.univ (fun (ck : Dev nD × (Fin 34 ⊕ Unit)) (κ : ℕ) => (cellInv ER (xRd m ρ) κ (kcell ck) : sProp 𝕄))) $$ HI
  icases HK with ⟨%K, #HI⟩
  iapply (with_records (R := records m ρ K) fun c _ => ghosts_intro m ρ K c)
  isplitr
  · unfold records; isplitl; · iexact HI
    iexact HR
  · rw [bigSep_sep']
    isplitl [Htok]; · iexact Htok
    iexact Hat

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ghosts m ρ) :=
  ((bigSep_mono fun c _ => core_alloc m ρ c).trans (bigSep_fupd _ _)).trans (BI.fupd_mono (regroup m ρ))

/-! ## The credit each cell starts with -/

theorem bar_eq_iff {a b : Dev nD} : Iff (barCell a = barCell b) (a = b) :=
  ⟨fun h => congrArg (fun g : GSem nD τ sig => g.1.1) h, fun h => h ▸ rfl⟩
theorem recv_eq_iff {a b s t : Dev nD} : Iff (recvCell a s = recvCell b t) (a = b ∧ s = t) :=
  ⟨fun h => ⟨congrArg (fun g : GSem nD τ sig => g.1.1) h, Fin.ext (Nat.add_left_cancel (congrArg Fin.val (SemLoc.dma.inj (congrArg Prod.snd h))))⟩,
    fun h => by rw [h.1, h.2]⟩
theorem bar_ne_recv {a b s : Dev nD} : barCell a ≠ recvCell b s := fun h => by cases congrArg Prod.snd h

theorem owed_bar (d : Dev nD) : O₀ d (barCell c) () = 1 := by
  unfold O₀ owR owB
  rw [Pi.add_apply, Finsupp.add_apply, Finset.sum_apply, Finsupp.finset_sum_apply, Finset.sum_apply, Finsupp.finset_sum_apply,
    Finset.sum_eq_zero, Nat.zero_add, Finset.sum_eq_single c]
  · rw [tallyAt_apply, if_pos ⟨rfl, rfl⟩]
  · intro p _ hp
    rw [tallyAt_apply, if_neg fun h => hp (bar_eq_iff.mp h.1).symm]
  · intro h; exact absurd (Finset.mem_univ _) h
  · intro p _
    split
    · rfl
    · rw [tallyAt_apply, if_neg fun h => bar_ne_recv h.1]

theorem owed_recv (d s : Dev nD) (hs : s ≠ c) : O₀ d (recvCell c s) () = if d = s then NC else 0 := by
  unfold O₀ owR owB
  rw [Pi.add_apply, Finsupp.add_apply, Finset.sum_apply, Finsupp.finset_sum_apply, Finset.sum_apply, Finsupp.finset_sum_apply,
    Finset.sum_eq_zero (s := Finset.univ) (f := fun p : Dev nD => (tallyAt (barCell p) () 1 : CellTallies nD τ sig Unit) (recvCell c s) ()), Nat.add_zero, Finset.sum_eq_single c]
  · by_cases h : d = s
    · subst h
      rw [if_neg hs.symm, if_pos rfl, tallyAt_apply, if_pos ⟨rfl, rfl⟩]
    · rw [if_neg h]
      split
      · rfl
      · rw [tallyAt_apply, if_neg fun e => h (recv_eq_iff.mp e.1).2.symm]
  · intro p _ hp
    split
    · rfl
    · rw [tallyAt_apply, if_neg fun e => hp (recv_eq_iff.mp e.1).1.symm]
  · intro h; exact absurd (Finset.mem_univ _) h
  · intro p _
    rw [tallyAt_apply, if_neg fun h => bar_ne_recv h.1.symm]

theorem launch_bar :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar c d]
  rfl

theorem launch_recv (s : Dev nD) (hs : s ≠ c) :
    tallyOn (recvCell c s) (launchCredit (Pipeline.owing O₀) 0 (recvCell c s)) = (tallyAt (recvCell c s) () NC : CellTallies nD τ sig Unit) := by
  unfold tallyAt; refine congrArg _ (Finsupp.ext fun u => ?_); cases u
  rw [Pipeline.launchCredit_owing, Finsupp.single_eq_same, Finset.sum_congr rfl fun d _ => owed_recv c d s hs, Finset.sum_ite_eq' Finset.univ s fun _ => NC,
    if_pos (Finset.mem_univ _)]

theorem bigSep_part {I : Type} [DecidableEq I] {s t : Finset I} (h : t ⊆ s) (Φ : I → sProp 𝕄) :
    bigSep s Φ ⊢ iprop(bigSep t Φ ∗ bigSep (s \ t) Φ) := Entails.of_eq (bigSep_sdiff_split h)

theorem creds : (Pipeline.launchCred O₀ c : sProp 𝕄) ⊢ credits c := by
  unfold Pipeline.launchCred credits
  rw [bigSep_univ_at _ (SemLoc.reg barS), launch_bar]
  have hsub : (Finset.univ.erase c).image (fun s : Dev nD => (SemLoc.dma (recvS s) : SemLoc sig)) ⊆ Finset.univ.erase (SemLoc.reg barS) := fun g hg => by
    obtain ⟨s, -, rfl⟩ := Finset.mem_image.mp hg
    exact Finset.mem_erase.mpr ⟨(by intro h; cases h), Finset.mem_univ _⟩
  have hinj : Set.InjOn (fun s : Dev nD => (SemLoc.dma (recvS s) : SemLoc sig)) (Finset.univ.erase c) := fun s _ t _ h =>
    Fin.ext (Nat.add_left_cancel (congrArg Fin.val (SemLoc.dma.inj h)))
  have hr : (bigSep ((Finset.univ.erase c).image fun s : Dev nD => (SemLoc.dma (recvS s) : SemLoc sig))
        fun sm => cred (tallyOn (c.tc, sm) (launchCredit (Pipeline.owing O₀) 0 (c.tc, sm))) : sProp 𝕄)
      = bigSep (Finset.univ.erase c) fun s : Dev nD => cred (tallyAt (recvCell c s) () NC) :=
    (bigSep_image_of_injOn hinj _).trans (bigSep_congr fun s hs => congrArg cred (launch_recv c s (Finset.ne_of_mem_erase hs)))
  iintro ⟨H1, H2⟩
  isplitl [H1]; · iexact H1
  ihave H3 := (bigSep_part hsub _) $$ H2
  icases H3 with ⟨H3, -⟩
  iapply (Entails.of_eq hr)
  iexact H3

/-! ## The side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ ghosts m ρ c)
      ⊢ |={Set.univ}=> iprop(start m ρ c ∗ emp) := by
  rw [Pipeline.unscopedRestP_none, unscopedRest0_eq]
  iintro ⟨HW, Hlev, Hcr, -, HG⟩
  ihave Hc := (creds (F := F) c) $$ Hcr
  imodintro
  unfold start wWhole
  isplitl
  · isplitl [HG]; · iexact HG
    isplitl [Hc]; · iexact Hc
    isplitl [Hlev]; · iexact Hlev
    iexact HW
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch buf
  iintro ⟨Hs, -, Hr⟩
  isplitl [Hs]; · iexact Hs
  iexact Hr

theorem phi1_exit :
    (dats m ρ 0 c).Φ (Fin.last cfg0.N) ⊢ iprop((unscopedSems0 c ∗ wWhole m c) ∗ Pipeline.ownSems0 osem c ∗ Pipeline.scopedRest cfg0.spec c) := by
  rw [show (dats m ρ 0 c).Φ (Fin.last cfg0.N) = Φ₁ m c from rfl, scopedRest0_eq]
  unfold Φ₁ scratch buf zeros
  iintro ⟨HW, ⟨HzB, HzC, HzS, HzR⟩, Hr⟩
  ihave Hz : iprop(Pipeline.ownSems0 (Ix := Unit) (Name := ℕ) (U := UU) (Lvl := ℕ) (Val := Elt F) (τ := τ) osem c ∗ unscopedSems0 c) $$ [HzB HzC HzS HzR]
  · rw [← sems0_eq, bigSep_cells c fun g => (semVal g 0 : sProp 𝕄)]
    isplitr [HzB]
    · isplitl [HzC]; · iexact HzC
      isplitl [HzS]; · iexact HzS
      iexact HzR
    iexact HzB
  icases Hz with ⟨Hos, Hus⟩
  isplitl [Hus HW]
  · isplitl [Hus]; · iexact Hus
    iexact HW
  isplitl [Hos]; · iexact Hos
  iexact Hr

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = wv m c

set_option maxHeartbeats 2000000 in
set_option maxRecDepth 8000 in
/-- From any memory with every counter at zero, every fair run of the program on the sixteen devices ends, with each
device's arrays at the computed contents, the weight as it was, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghosts m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wWhole m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = wv m c)
    (hY := fun c s' => by
      iintro ⟨⟨Hu, HW⟩, -, HSI⟩
      imod (Pipeline.unscopedSems0_read (X := unscopedSems0 c) (c := c) fupd_intro s') $$ [Hu HSI] with ⟨%h1, HSI⟩
      · isplitl [Hu] <;> iassumption
      ihave Hp := (pointsTo_read_all (I := Unit) {()} (fun _ => (c : Thread nD τ).loc main_arg1) (fun _ => wv m c) s') $$ [HW HSI]
      · rw [bigSep_singleton]
        unfold wWhole
        isplitl [HW] <;> iassumption
      icases Hp with ⟨%h2, HSI⟩
      imodintro
      isplitr; · ipureintro; exact ⟨h1, h2 () (Finset.mem_singleton_self _)⟩
      iexact HSI)
    (hQ := fun _ h hs => ⟨fun c => ⟨(h c).1, (h c).2.2.2⟩, sem_eq_zero hs fun c => (h c).2.2.1⟩)

/-- The arrays read are as they were; the result is what every device stores. -/
theorem finalA_x : finalA m ρ c (0 : Fin 3) = m ((c : Thread nD τ).loc main_arg0) :=
  (dats (F := F) m ρ 0 c).arrAt_in (0 : Fin 3) rfl _
theorem finalA_lab : finalA m ρ c (1 : Fin 3) = m ((c : Thread nD τ).loc main_arg2) :=
  (dats (F := F) m ρ 0 c).arrAt_in (1 : Fin 3) rfl _

end Cert.KernelIdealProof

end
-- ==== Proof.LossMath.lean ====
/-
The mathematics of the loss, about no program: a sum cut into blocks, and a shifted log-sum-exp, over real rows read in
the extended reals.
-/
module

public import Idealize.ShloMosaic.PureOps
public import Idealize.ShloMosaic.PureOps.Ideal.Laws
public import Idealize.ShloMosaic.Lib.ValueIdx

@[expose] public section

noncomputable section

namespace Cert.LossMath

open Idealize.ShloMosaic

/-- The sum of reals read as extended reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest entry of a row of reals is a real. -/
theorem exists_max {n : ℕ} (hn : 0 < n) (l : Fin n → ℝ) :
    ∃ r : ℝ, (Finset.univ : Finset (Fin n)).fold max (⊥ : EReal) (fun v => (l v : EReal)) = (r : EReal) := by
  have hb : (⊥ : EReal) < (Finset.univ : Finset (Fin n)).fold max (⊥ : EReal) (fun v => (l v : EReal)) :=
    (Finset.lt_fold_max _).mpr (Or.inr ⟨⟨0, hn⟩, Finset.mem_univ _, EReal.bot_lt_coe _⟩)
  have ht : (Finset.univ : Finset (Fin n)).fold max (⊥ : EReal) (fun v => (l v : EReal)) < ⊤ :=
    (Finset.fold_max_lt _).mpr ⟨bot_lt_top, fun v _ => EReal.coe_lt_top _⟩
  exact ⟨_, (EReal.coe_toReal ht.ne hb.ne').symm⟩

/-- Shifting a row by its largest entry, and adding that entry to the log of the sum, changes nothing. -/
theorem shifted {n : ℕ} (hn : 0 < n) (l : Fin n → ℝ) (M : EReal)
    (hM : M = (Finset.univ : Finset (Fin n)).fold max (⊥ : EReal) (fun v => (l v : EReal))) :
    M + Ideal.log (∑ v, Ideal.exp ((l v : EReal) - M)) = Ideal.log (∑ v, Ideal.exp (l v : EReal)) := by
  obtain ⟨r, hr⟩ := exists_max hn l
  rw [hM, hr]
  have hpos : ∀ g : Fin n → ℝ, 0 < ∑ v, Real.exp (g v) := fun g =>
    Finset.sum_pos (fun v _ => Real.exp_pos _) ⟨⟨0, hn⟩, Finset.mem_univ _⟩
  simp only [← EReal.coe_sub, Ideal.exp_coe, coe_sum, Ideal.log_coe]
  rw [if_neg (not_le.mpr (hpos fun v => l v - r)), if_neg (not_le.mpr (hpos l)), ← EReal.coe_add]
  refine congrArg _ ?_
  rw [show (∑ v, Real.exp (l v)) = Real.exp r * ∑ v, Real.exp (l v - r) from by
    rw [Finset.mul_sum]
    exact Finset.sum_congr rfl fun v _ => by rw [← Real.exp_add]; congr 1; ring]
  rw [Real.log_mul (Real.exp_pos r).ne' (hpos fun v => l v - r).ne', Real.log_exp]

/-- The column of the whole vocabulary that lane `j` of block `b` of part `d` is. -/
def col (d : Fin 16) (b : Fin 4) (j : Fin 512) : Fin 32768 := ⟨2048 * d.val + 512 * b.val + j.val, by omega⟩

def colEquiv : Fin 16 × Fin 4 × Fin 512 ≃ Fin 32768 where
  toFun p := col p.1 p.2.1 p.2.2
  invFun v := (⟨v.val / 2048, by omega⟩, ⟨v.val / 512 % 4, by omega⟩, ⟨v.val % 512, by omega⟩)
  left_inv := by
    rintro ⟨d, b, j⟩
    refine Prod.ext (Fin.ext ?_) (Prod.ext (Fin.ext ?_) (Fin.ext ?_)) <;> simp only [col] <;> omega
  right_inv v := Fin.ext (by simp only [col]; omega)

/-- A sum over the vocabulary, taken part by part, block by block and lane by lane. -/
theorem sum_cols {M : Type} [AddCommMonoid M] (f : Fin 32768 → M) : ∑ d, ∑ b, ∑ j, f (col d b j) = ∑ v, f v := by
  rw [← Equiv.sum_comp colEquiv f, Fintype.sum_prod_type]
  exact Finset.sum_congr rfl fun d _ => (Fintype.sum_prod_type fun q : Fin 4 × Fin 512 => f (colEquiv (d, q))).symm

/-- The sum that is zero off one place. -/
theorem sum_pick {n : ℕ} (f : Fin n → EReal) (q : Fin n) : (∑ v, if v = q then f v else 0) = f q := by
  rw [Finset.sum_ite_eq' Finset.univ q f, if_pos (Finset.mem_univ _)]

/-- The logit of row `t` and column `v`: the row of `x` times the column of the weight. -/
def logit (x : (⟨2, ![1024, 2048]⟩ : Shape).Idx → EReal) (W : (⟨2, ![2048, 32768]⟩ : Shape).Idx → EReal) (t : Fin 1024) (v : Fin 32768) : EReal :=
  ∑ k : Fin 2048, x (ValueIdx.ix2 t k) * W (ValueIdx.ix2 k v)

end Cert.LossMath

end
-- ==== Proof.KernelIdealValue.lean ====
/-
What the kernel leaves in its result, over the extended reals, in terms of `x`, the device's columns of the weight and the
labels: for every row the log of the summed exponentials of the logits, minus the logit of the label, the sums taken device by
device, block by block and lane by lane.
-/
module

public import proofs.«01_k».proof.Proof.KernelIdealLaunch
public import proofs.«01_k».proof.Proof.LossMath
public import Idealize.ShloMosaic.Lib.ValueIdx
public import Idealize.ShloMosaic.Lib.Pipeline.Value
public import Idealize.ShloMosaic.Lib.MatmulPlain
public import Idealize.ShloMosaic.Lib.StableHlo.Predicate
public import Idealize.ShloMosaic.PureOps.Ideal.Laws

@[expose] public section

noncomputable section

namespace Cert.KernelIdealProof

open Cert.KernelIdeal Cert.KernelIdeal.Gen
open Idealize.ShloMosaic Idealize.ShloMosaic.TcCoe
open Idealize.ShloMosaic.ValueIdx

/-! ## The payloads at an entry -/

/-- The logit of row `t` and lane `j` of a block. -/
def lgt (w : FVec Ideal S1x2048x512 .f32) (x : FVec Ideal S1024x2048 .bf16) (t : Fin 1024) (j : Fin 512) : EReal :=
  ∑ k : Fin 2048, x (ix2 t k) * w (ix3 (0 : Fin 1) k j)

theorem pay6_apply (w : FVec Ideal S1x2048x512 .f32) (x : FVec Ideal S1024x2048 .bf16) (t : Fin 1024) (j : Fin 512) :
    k0_pay6 (F := Ideal) w x (ix2 t j) = lgt w x t j := by
  refine (Ideal.matmul_plain_apply (M := 1024) (K := 2048) (N := 512) none x
    (truncf .bf16 (shapeCast S2048x512 w shapeCasts_S1x2048x512_S2048x512) bitsLt_bf16_f32) (constant S1024x512 .f32 0x00000000#32) t j).trans ?_
  rw [constant_apply, Ideal.ofBits_zero_f32, zero_add]
  exact Finset.sum_congr rfl fun k _ => congrArg (x (ix2 t k) * ·) (shapeCast_1ab_ab_apply w _ k j)

/-- One block's row sums added to a column. -/
theorem rowsum_apply (acc : FVec Ideal S1024x1 .f32) (v : FVec Ideal S1024x512 .f32) (t : Fin 1024) :
    addf acc (shapeCast S1024x1 (multiReduction .add [1] S1024 v 0x00000000#32 reduces_S1024x512_S1024 (.inl rfl) rfl) shapeCasts_S1024_S1024x1) (ix2 t (0 : Fin 1))
      = acc (ix2 t (0 : Fin 1)) + ∑ j : Fin 512, v (ix2 t j) := by
  refine congrArg (acc (ix2 t (0 : Fin 1)) + ·) ((shapeCast_apply _ _ (ix2 t (0 : Fin 1)) (ix1 t) ?_).trans
    ((Ideal.multiReduction_add_single v _ reduces_S1024x512_S1024 (.inl rfl) rfl (ix1 t)).trans (Finset.sum_congr rfl fun j _ => congrArg v ?_)))
  · rw [Shape.rowMajor_val_one, Shape.rowMajor_val_two]; exact ((Nat.add_zero _).trans (Nat.mul_one _)).symm
  · funext a; fin_cases a <;> rfl

theorem expsum_apply (acc : FVec Ideal S1024x1 .f32) (w : FVec Ideal S1x2048x512 .f32) (x : FVec Ideal S1024x2048 .bf16) (t : Fin 1024) :
    k0_pay7 (F := Ideal) acc w x (ix2 t (0 : Fin 1)) = acc (ix2 t (0 : Fin 1)) + ∑ j : Fin 512, Ideal.exp (lgt w x t j) :=
  (rowsum_apply acc (exp (k0_pay6 (F := Ideal) w x)) t).trans
    (congrArg (acc (ix2 t (0 : Fin 1)) + ·) (Finset.sum_congr rfl fun j _ => congrArg Ideal.exp (pay6_apply w x t j)))

/-- The logits of a block whose column, counted from `g`, is the row's label. -/
def keptAt (g : BitVec 32) (lab : IVec S1024x1 32) (w : FVec Ideal S1x2048x512 .f32) (x : FVec Ideal S1024x2048 .bf16) : FVec Ideal S1024x512 .f32 :=
  select (cmpi .eq (addi (broadcast S1024x512 g) (iota .tc S1024x512 32 [1] iota_S1024x512_d1_w32)) (broadcastTo S1024x512 lab broadcasts_S1024x1_S1024x512))
    (k0_pay6 (F := Ideal) w x) (broadcast S1024x512 (Scalar.ofBits (F := Ideal) .f32 0x00000000#32))

theorem keptAt_apply (g : BitVec 32) (lab : IVec S1024x1 32) (w : FVec Ideal S1x2048x512 .f32) (x : FVec Ideal S1024x2048 .bf16) (t : Fin 1024) (j : Fin 512) :
    keptAt g lab w x (ix2 t j) = if g + BitVec.ofNat 32 j.val = lab (ix2 t (0 : Fin 1)) then lgt w x t j else 0 := by
  have hb := broadcastTo_apply lab broadcasts_S1024x1_S1024x512 (ix2 t j) (ix2 t (0 : Fin 1)) (fun a => by fin_cases a <;> rfl)
  have hi := iota_single_apply .tc S1024x512 32 1 iota_S1024x512_d1_w32 (ix2 t j)
  unfold keptAt
  rw [select_apply]
  show Scalar.select (IntOp.cmpi .eq (g + iota .tc S1024x512 32 [1] iota_S1024x512_d1_w32 (ix2 t j)) (broadcastTo S1024x512 lab broadcasts_S1024x1_S1024x512 (ix2 t j)))
    (k0_pay6 (F := Ideal) w x (ix2 t j)) (Ideal.ofBits .f32 0x00000000#32) = _
  rw [hi, hb, pay6_apply, Ideal.ofBits_zero_f32]
  exact if_congr StableHlo.Predicate.cmpi_eq_iff rfl rfl

theorem pick_apply (g : BitVec 32) (lab : IVec S1024x1 32) (acc : FVec Ideal S1024x1 .f32) (w : FVec Ideal S1x2048x512 .f32)
    (x : FVec Ideal S1024x2048 .bf16) (t : Fin 1024) :
    addf acc (shapeCast S1024x1 (multiReduction .add [1] S1024 (keptAt g lab w x) 0x00000000#32 reduces_S1024x512_S1024 (.inl rfl) rfl) shapeCasts_S1024_S1024x1) (ix2 t (0 : Fin 1))
      = acc (ix2 t (0 : Fin 1)) + ∑ j : Fin 512, if g + BitVec.ofNat 32 j.val = lab (ix2 t (0 : Fin 1)) then lgt w x t j else 0 :=
  (rowsum_apply acc _ t).trans (congrArg (acc (ix2 t (0 : Fin 1)) + ·) (Finset.sum_congr rfl fun j _ => keptAt_apply g lab w x t j))

/-! ## One device's pair -/

variable (m : (ℓ : Loc nD τ sig) → Buf (Elt Ideal) ℓ) (ρ : Dev nD → PrngReg)

/-- The column that a block's lanes are counted from. -/
def gw (c : Dev nD) (b : Fin 4) : BitVec 32 := xw c * 16384#32 + colw c + BitVec.ofNat 32 (512 * b.val)

theorem gw_eq (c : Dev nD) (b : Fin 4) : gw c b = BitVec.ofNat 32 (2048 * c.val + 512 * b.val) := by
  revert b; revert c; decide

/-- What block `b` adds to a device's sum, and to its label's logit. -/
def bsum (c : Dev nD) (t : Fin 1024) (b : Fin 4) : EReal := ∑ j : Fin 512, Ideal.exp (lgt (wld m c b) (xb m ρ c) t j)
def blbl (c : Dev nD) (t : Fin 1024) (b : Fin 4) : EReal :=
  ∑ j : Fin 512, if gw c b + BitVec.ofNat 32 j.val = lab m ρ c (ix2 t (0 : Fin 1)) then lgt (wld m c b) (xb m ρ c) t j else 0

theorem sum4_apply (c : Dev nD) (t : Fin 1024) : (sum4 m ρ c (ix2 t (0 : Fin 1)) : EReal) = ∑ b : Fin 4, bsum m ρ c t b := by
  have h4 : (sum4 m ρ c (ix2 t (0 : Fin 1)) : EReal) = sum3 m ρ c (ix2 t (0 : Fin 1)) + bsum m ρ c t 3 := by
    unfold sum4 k0_pay16
    dsimp only
    rw [shapeCast_self]
    exact expsum_apply (sum3 m ρ c) (wld m c 3) (xb m ρ c) t
  have h3 : sum3 m ρ c (ix2 t (0 : Fin 1)) = sum2 m ρ c (ix2 t (0 : Fin 1)) + bsum m ρ c t 2 := expsum_apply (sum2 m ρ c) (wld m c 2) (xb m ρ c) t
  have h2 : sum2 m ρ c (ix2 t (0 : Fin 1)) = sum1 m ρ c (ix2 t (0 : Fin 1)) + bsum m ρ c t 1 := expsum_apply (sum1 m ρ c) (wld m c 1) (xb m ρ c) t
  have h1 : sum1 m ρ c (ix2 t (0 : Fin 1)) = k0_pay4 (F := Ideal) (ix2 t (0 : Fin 1)) + bsum m ρ c t 0 := expsum_apply k0_pay4 (wld m c 0) (xb m ρ c) t
  have h0 : k0_pay4 (F := Ideal) (ix2 t (0 : Fin 1)) = 0 := Ideal.ofBits_zero_f32
  rw [Fin.sum_univ_four, h4, h3, h2, h1, h0, zero_add]

theorem lbl4_apply (c : Dev nD) (t : Fin 1024) : (lbl4 m ρ c (ix2 t (0 : Fin 1)) : EReal) = ∑ b : Fin 4, blbl m ρ c t b := by
  have h4 : (lbl4 m ρ c (ix2 t (0 : Fin 1)) : EReal) = lbl3 m ρ c (ix2 t (0 : Fin 1)) + blbl m ρ c t 3 :=
by
    unfold lbl4 k0_pay17
    dsimp only
    rw [shapeCast_self]
    exact pick_apply (gw c 3) (lab m ρ c) (lbl3 m ρ c) (wld m c 3) (xb m ρ c) t
  have h3 : lbl3 m ρ c (ix2 t (0 : Fin 1)) = lbl2 m ρ c (ix2 t (0 : Fin 1)) + blbl m ρ c t 2 :=
    pick_apply (gw c 2) (lab m ρ c) (lbl2 m ρ c) (wld m c 2) (xb m ρ c) t
  have h2 : lbl2 m ρ c (ix2 t (0 : Fin 1)) = lbl1 m ρ c (ix2 t (0 : Fin 1)) + blbl m ρ c t 1 :=
    pick_apply (gw c 1) (lab m ρ c) (lbl1 m ρ c) (wld m c 1) (xb m ρ c) t
  have h1 : lbl1 m ρ c (ix2 t (0 : Fin 1)) = k0_pay5 (F := Ideal) (ix2 t (0 : Fin 1)) + blbl m ρ c t 0 :=
    pick_apply (gw c 0) (lab m ρ c) k0_pay5 (wld m c 0) (xb m ρ c) t
  have h0 : k0_pay5 (F := Ideal) (ix2 t (0 : Fin 1)) = 0 := Ideal.ofBits_zero_f32
  rw [Fin.sum_univ_four, h4, h3, h2, h1, h0, zero_add]

/-! ## The result -/

/-- An entry of a device's pair. -/
def pairv (c : Dev nD) (t : Fin 1024) (q : Fin 2) : EReal := accv m ρ c (ix2 (n0 := 1024) (n1 := 2) t q)

theorem table_apply (t : Fin 1024) (q : Fin 2) :
    multiReduction .add [0] S1024x2 (k0_pay18 (commv m ρ)) 0x00000000#32 reduces_S16x1024x2_S1024x2 (.inl rfl) rfl (ix2 t q)
      = ∑ c : Dev nD, pairv m ρ c t q := by
  refine (Ideal.multiReduction_add_single (k0_pay18 (commv m ρ)) _ reduces_S16x1024x2_S1024x2 (.inl rfl) rfl (ix2 t q)).trans
    (Finset.sum_congr rfl fun c _ => ?_)
  rfl

theorem outv_apply (t : Fin 1024) :
    outv m ρ (ix2 t (0 : Fin 1)) = Ideal.log (∑ c : Dev nD, ∑ b : Fin 4, bsum m ρ c t b) - ∑ c : Dev nD, ∑ b : Fin 4, blbl m ρ c t b := by
  refine (subf_apply _ _ _).trans (congrArg₂ (fun a b : EReal => Ideal.log a - b) ?_ ?_)
  · exact (slice2_axis1_apply 0 _ _ t 0 0 rfl).trans ((table_apply m ρ t 0).trans (Finset.sum_congr rfl fun c _ => sum4_apply m ρ c t))
  · exact (slice2_axis1_apply 1 _ _ t 0 1 rfl).trans ((table_apply m ρ t 1).trans (Finset.sum_congr rfl fun c _ => lbl4_apply m ρ c t))

/-! ## The buffers the pair is computed from, and the one the result ends in -/

theorem xb_apply (c : Dev nD) (i : S1024x2048.Idx) : (xb m ρ c i : EReal) = m (c.tc.loc main_arg0) i := by
  have hz : (fun a => win0_0.index (0 : Fin 1) a * main_arg0.ty.shape.size a) = fun _ => 0 := funext fun a => by fin_cases a <;> decide
  have h : xv m ρ c = m (c.tc.loc main_arg0) :=
    Memref.read_access_unit_zero (Elt Ideal) main_arg0 hz _ _
  unfold xb k0_pay2
  rw [shapeCast_self, shapeCast_self]
  exact congrFun h i

theorem lab_apply (c : Dev nD) (i : S1024x1.Idx) : lab m ρ c i = m (c.tc.loc main_arg2) i := by
  have hz : (fun a => win0_1.index (0 : Fin 1) a * main_arg2.ty.shape.size a) = fun _ => 0 := funext fun a => by fin_cases a <;> decide
  have h : labv m ρ c = m (c.tc.loc main_arg2) :=
    Memref.read_access_unit_zero (Elt Ideal) main_arg2 hz _ _
  unfold lab k0_pay3
  rw [shapeCast_self]
  exact congrFun h i

theorem off_eq (c : Dev nD) (b : Fin 4) : k0_off1 c (BitVec.ofNat 32 (512 * b.val)) = ![0, 2048 * (c.val % 8) + 512 * b.val] := by
  revert b; revert c; decide

/-- Lane `j` of block `b` of device `c`, as a column of the device's part of the weight. -/
def lcol (c : Dev nD) (b : Fin 4) (j : Fin 512) : Fin 16384 := ⟨2048 * (c.val % 8) + 512 * b.val + j.val, by omega⟩

theorem wld_apply (c : Dev nD) (b : Fin 4) (k : Fin 2048) (j : Fin 512) :
    wld m c b (ix3 (0 : Fin 1) k j) = wv m c (ix2 (n0 := 2048) (n1 := 16384) k (lcol c b j)) := by
  have hr : (Shape.reshapeEquiv squeezes_S1x2048x512_S2048x512.numel_eq).symm (ix3 (0 : Fin 1) k j) = ix2 k j :=
    (Equiv.symm_apply_eq _).mpr (reshapeEquiv_ix2_1ab squeezes_S1x2048x512_S2048x512.numel_eq k j).symm
  refine (congrArg (wblk m c b) hr).trans ?_
  refine congrArg (wv m c) (funext fun a => Fin.ext ?_)
  show k0_off1 c (BitVec.ofNat 32 (512 * b.val)) a + 1 * (ix2 k j a).val = _
  rw [off_eq]
  match a with
  | ⟨0, _⟩ => show 0 + 1 * k.val = k.val; omega
  | ⟨1, _⟩ => show 2048 * (c.val % 8) + 512 * b.val + 1 * j.val = 2048 * (c.val % 8) + 512 * b.val + j.val; omega

theorem out_eq (c : Dev nD) : finalA m ρ c (2 : Fin 3) = outv m ρ := by
  have hz : (fun a => win0_2.index (0 : Fin 1) a * main_v1.ty.shape.size a) = fun _ => 0 := funext fun a => by fin_cases a <;> decide
  have h : (win0_2.blk (0 : Fin 1)).view.read (Elt Ideal) (finalA m ρ c (2 : Fin 3)) = outv m ρ := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt Ideal) main_v1 hz _ _).symm.trans h

/-! ## The result, from the whole arrays -/

open Cert.LossMath (col logit)

theorem mesh_x (c : Dev nD) : Layout.meshLin [2, 2, 4] c.val [0] = c.val / 8 := by
  revert c; decide

theorem mesh_0 (c : Dev nD) : Layout.meshLin [2, 2, 4] c.val [] = 0 := by
  revert c; decide

/-- What the sixteen devices hold: the whole `x`, their block of the weight, all the labels. -/
structure Holds (X : S1024x2048.Idx → EReal) (W : (⟨2, ![2048, 32768]⟩ : Shape).Idx → EReal) (L : S1024x1.Idx → BitVec 32) : Prop where
  hx : ∀ c : Dev nD, m (c.tc.loc main_arg0) = X
  hw : ∀ c : Dev nD, m (c.tc.loc main_arg1) = Layout.blockN ⟨2, ![2048, 16384]⟩ ⟨2, ![2048, 32768]⟩ (Layout.meshBlock [2, 2, 4] ![[], [0]] c) W
  hl : ∀ c : Dev nD, m (c.tc.loc main_arg2) = L

variable {m} {X : S1024x2048.Idx → EReal} {W : (⟨2, ![2048, 32768]⟩ : Shape).Idx → EReal} {L : S1024x1.Idx → BitVec 32}

theorem wld_whole (h : Holds m X W L) (c : Dev nD) (b : Fin 4) (k : Fin 2048) (j : Fin 512) :
    (wld m c b (ix3 (0 : Fin 1) k j) : EReal) = W (ix2 k (col c b j)) := by
  refine (wld_apply m c b k j).trans ((congrFun (h.hw c) _).trans (congrArg W (funext fun a => Fin.ext ?_)))
  match a with
  | ⟨0, _⟩ =>
    show Layout.meshLin [2, 2, 4] c.val [] * 2048 + k.val = k.val
    rw [mesh_0]; omega
  | ⟨1, _⟩ =>
    show Layout.meshLin [2, 2, 4] c.val [0] * 16384 + (2048 * (c.val % 8) + 512 * b.val + j.val) = 2048 * c.val + 512 * b.val + j.val
    rw [mesh_x]; omega

theorem lgt_whole (h : Holds m X W L) (c : Dev nD) (b : Fin 4) (t : Fin 1024) (j : Fin 512) :
    lgt (wld m c b) (xb m ρ c) t j = logit X W t (col c b j) :=
  Finset.sum_congr rfl fun k _ => congrArg₂ (fun a b : EReal => a * b)
    ((xb_apply m ρ c (ix2 t k)).trans (congrFun (h.hx c) _)) (wld_whole h c b k j)

theorem gw_lane (c : Dev nD) (b : Fin 4) (j : Fin 512) : gw c b + BitVec.ofNat 32 j.val = BitVec.ofNat 32 (col c b j).val := by
  rw [gw_eq, ← BitVec.ofNat_add]; rfl

theorem outv_whole (h : Holds m X W L) (t : Fin 1024) :
    outv m ρ (ix2 t (0 : Fin 1)) = Ideal.log (∑ v : Fin 32768, Ideal.exp (logit X W t v))
      - ∑ v : Fin 32768, if BitVec.ofNat 32 v.val = L (ix2 t (0 : Fin 1)) then logit X W t v else 0 := by
  rw [outv_apply, ← LossMath.sum_cols (fun v => Ideal.exp (logit X W t v)),
    ← LossMath.sum_cols (fun v : Fin 32768 => if BitVec.ofNat 32 v.val = L (ix2 t (0 : Fin 1)) then logit X W t v else 0)]
  refine congrArg₂ (fun a b : EReal => Ideal.log a - b) ?_ ?_
  · exact Finset.sum_congr rfl fun c _ => Finset.sum_congr rfl fun b _ => Finset.sum_congr rfl fun j _ => congrArg Ideal.exp (lgt_whole ρ h c b t j)
  · refine Finset.sum_congr rfl fun c _ => Finset.sum_congr rfl fun b _ => Finset.sum_congr rfl fun j _ => ?_
    rw [gw_lane, lab_apply, lgt_whole ρ h c b t j, h.hl c]

end Cert.KernelIdealProof

end
-- ==== Proof.ReferenceIdealValue.lean ====
/-
What the reference leaves in its result, over the extended reals: for real logits and labels that are columns, row by row
the log of the summed exponentials of the logits minus the label's logit.
-/
module

public import proofs.«01_k».proof.Proof.Gen.ReferenceIdeal.Run
public import proofs.«01_k».proof.Proof.LossMath
public import Idealize.ShloMosaic.Lib.ValueIdx
public import Idealize.ShloMosaic.Lib.IdealHost
public import Idealize.ShloMosaic.Lib.Pipeline.Value
public import Idealize.ShloMosaic.Lib.MatmulPlain
public import Idealize.ShloMosaic.Lib.KernelVsHost
public import Idealize.ShloMosaic.Lib.StableHlo.Predicate
public import Idealize.ShloMosaic.PureOps.Ideal.Laws

@[expose] public section

noncomputable section

namespace Cert.ReferenceIdealProof

open Cert.ReferenceIdeal Cert.ReferenceIdeal.Gen
open Idealize.ShloMosaic Idealize.ShloMosaic.TcCoe
open Idealize.ShloMosaic.ValueIdx

/-! ## The stages of the result -/

/-- All the logits. -/
def lg (x : FVec Ideal S1024x2048 .f32) (W : FVec Ideal S2048x32768 .f32) : FVec Ideal S1024x32768 .f32 :=
  Host.dotGeneral dot_S1024x2048_S2048x32768_S1024x32768_1_0_0_1_n_n none x W

/-- Each row's largest logit, as a column. -/
def mx (y : FVec Ideal S1024x32768 .f32) : FVec Ideal S1024x1 .f32 :=
  broadcastInDim S1024x1 ![0] bcast_S1024_S1024x1_0
    (Host.reduce FloatOps.maximumf y (constant S_ .f32 0xFF800000#32) reducesTo_S1024x32768_S1024_d1 h_S_)

/-- The log of each row's summed exponentials, shifted by the row's largest logit. -/
def lse (y : FVec Ideal S1024x32768 .f32) : FVec Ideal S1024x1 .f32 :=
  addf (mx y) (Host.log (broadcastInDim S1024x1 ![0] bcast_S1024_S1024x1_0
    (Host.reduceAdd (Host.exp (subf y (broadcastInDim S1024x32768 ![0, 1] bcast_S1024x1_S1024x32768_0_1 (mx y))))
      (constant S_ .f32 0x00000000#32) reducesTo_S1024x32768_S1024_d1 h_S_)))

/-- A vector of places, the negative ones counted from the end of an axis of size `n`. -/
def wrapped (v : IVec S1024 32) (n : BitVec 32) : IVec S1024 32 :=
  select (cmpi .slt v (broadcastInDim S1024 ![] bcast_S_S1024 (constantI S_ 32 0#32)))
    (addi v (broadcastInDim S1024 ![] bcast_S_S1024 (constantI S_ 32 n))) v

/-- The two columns of places to pick from: the row's own number, and its label. -/
def starts (l : IVec S1024x1 32) : IVec S1024x2 32 :=
  concatenate S1024x2 1
    [⟨S1024x1, broadcastInDim S1024x1 ![0] bcast_S1024_S1024x1_0 (wrapped (iotaInDim S1024 32 0) 1024#32)⟩,
      ⟨S1024x1, broadcastInDim S1024x1 ![0] bcast_S1024_S1024x1_0 (wrapped (shapeCast S1024 l shapeCasts_S1024x1_S1024) 32768#32)⟩]
    concatenates_S1024x1_S1024x1_S1024x2_d1

/-- The reference's result. -/
def refOut (x : FVec Ideal S1024x2048 .f32) (W : FVec Ideal S2048x32768 .f32) (l : IVec S1024x1 32) : FVec Ideal S1024x1 .f32 :=
  shapeCast S1024x1 (subf (shapeCast S1024 (lse (lg x W)) shapeCasts_S1024x1_S1024)
    (Host.gather gather_S1024x32768_S1024x2_S1024_n_01_n_n_01_1_11 (lg x W) (starts l))) shapeCasts_S1024_S1024x1

/-! ## Each stage at an entry -/

theorem sub_at {s : Shape} (a b : FVec Ideal s .f32) (j : s.Idx) : subf a b j = (a j - b j : EReal) := rfl

theorem exp_sub_at {s : Shape} (a b : FVec Ideal s .f32) (j : s.Idx) : Host.exp (subf a b) j = Ideal.exp (a j - b j) := rfl

theorem add_log_at {s : Shape} (a b : FVec Ideal s .f32) (j : s.Idx) : addf a (Host.log b) j = (a j : EReal) + Ideal.log (b j) := rfl

theorem lg_apply (x : FVec Ideal S1024x2048 .f32) (W : FVec Ideal S2048x32768 .f32) (t : Fin 1024) (v : Fin 32768) :
    lg x W (ix2 t v) = LossMath.logit x W t v := by
  unfold lg
  rw [← matmul_zero_eq_dotGeneral]
  refine (Ideal.matmul_plain_apply (M := 1024) (K := 2048) (N := 32768) none x W (constant S1024x32768 .f32 0x00000000#32) t v).trans ?_
  rw [constant_apply, Ideal.ofBits_zero_f32, zero_add]
  rfl

/-- A vector as a column reads the vector. -/
theorem column_apply {α : Type} (v : S1024.Idx → α) (t : Fin 1024) :
    broadcastInDim S1024x1 ![0] bcast_S1024_S1024x1_0 v (ix2 t (0 : Fin 1)) = v (ix1 t) :=
  broadcastInDim_apply _ _ _ _ (ix1 t) (by
    intro a
    match a with
    | ⟨0, _⟩ => rfl)

theorem reduces_rows : S1024x32768.Reduces [1] S1024 := by decide

/-- The entry of a row at a column, as the reductions name it. -/
theorem lift_row {n : ℕ} (h : (⟨2, ![1024, n]⟩ : Shape).Reduces [1] S1024) (t : Fin 1024) (v : Fin n) : h.lift (ix1 t) v = ix2 t v :=
  funext fun a => by
    match a with
    | ⟨0, _⟩ => rfl
    | ⟨1, _⟩ => rfl

/-- Each row's largest entry, read along the row. -/
theorem rowmax_apply {n : ℕ} (h' : (⟨2, ![1024, n]⟩ : Shape).ReducesTo [1] S1024) (h : (⟨2, ![1024, n]⟩ : Shape).Reduces [1] S1024)
    (y : FVec Ideal ⟨2, ![1024, n]⟩ .f32) (init : FVec Ideal S_ .f32) (hi : ∀ j, init j = (⊥ : EReal)) (t : Fin 1024) :
    Host.reduce FloatOps.maximumf y init h' h_S_ (ix1 t) = (Finset.univ : Finset (Fin n)).fold max (⊥ : EReal) (fun v => y (ix2 t v)) := by
  refine (Host.reduce_eq_fold_single (FloatOps.maximumf (F := Ideal) (φ := .f32)) y init h' h h_S_ (ix1 t)).trans ?_
  rw [hi]
  have e : y ∘ h.lift (ix1 t) = fun v => y (ix2 t v) := funext fun v => congrArg y (lift_row h t v)
  rw [e]
  rfl

/-- Each row's sum, read along the row. -/
theorem rowsum_apply {n : ℕ} (h' : (⟨2, ![1024, n]⟩ : Shape).ReducesTo [1] S1024) (h : (⟨2, ![1024, n]⟩ : Shape).Reduces [1] S1024)
    (y : FVec Ideal ⟨2, ![1024, n]⟩ .f32) (init : FVec Ideal S_ .f32) (hi : ∀ j, init j = (0 : EReal)) (t : Fin 1024) :
    Host.reduceAdd y init h' h_S_ (ix1 t) = ∑ v : Fin n, (y (ix2 t v) : EReal) := by
  refine (Ideal.hostReduceAdd_single h' h y _ (ix1 t)).trans ?_
  rw [hi, zero_add]
  exact Finset.sum_congr rfl fun v _ => congrArg y (lift_row h t v)

theorem mx_apply (y : FVec Ideal S1024x32768 .f32) (t : Fin 1024) :
    mx y (ix2 t (0 : Fin 1)) = (Finset.univ : Finset (Fin 32768)).fold max (⊥ : EReal) (fun v => y (ix2 t v)) := by
  have hb : Ideal.ofBits .f32 0xFF800000#32 = ⊥ := by simp [Ideal.ofBits, Ideal.ieee]
  exact (column_apply _ t).trans (rowmax_apply reducesTo_S1024x32768_S1024_d1 reduces_rows y _ (fun _ => hb) t)

/-- A column spread along the rows reads the column. -/
theorem spread_apply {α : Type} (v : S1024x1.Idx → α) (t : Fin 1024) (j : Fin 32768) :
    broadcastInDim S1024x32768 ![0, 1] bcast_S1024x1_S1024x32768_0_1 v (ix2 t j) = v (ix2 t (0 : Fin 1)) :=
  broadcastInDim_apply _ _ _ _ (ix2 t (0 : Fin 1)) (by
    intro a
    match a with
    | ⟨0, _⟩ => rfl
    | ⟨1, _⟩ => rfl)

theorem lse_apply (y : FVec Ideal S1024x32768 .f32) (t : Fin 1024) :
    lse y (ix2 t (0 : Fin 1)) = mx y (ix2 t (0 : Fin 1))
      + Ideal.log (∑ v : Fin 32768, Ideal.exp (y (ix2 t v) - mx y (ix2 t (0 : Fin 1)))) := by
  unfold lse
  rw [add_log_at, column_apply, rowsum_apply reducesTo_S1024x32768_S1024_d1 reduces_rows _ (constant S_ .f32 0x00000000#32) (fun _ => Ideal.ofBits_zero_f32) t]
  exact congrArg (fun z => mx y (ix2 t (0 : Fin 1)) + Ideal.log z) (Finset.sum_congr rfl fun v _ => by rw [exp_sub_at, spread_apply])

/-- The log-sum-exp of a row of reals is the plain one. -/
theorem lse_real (y : FVec Ideal S1024x32768 .f32) (t : Fin 1024) (r : Fin 32768 → ℝ) (hr : ∀ v, y (ix2 t v) = (r v : EReal)) :
    lse y (ix2 t (0 : Fin 1)) = Ideal.log (∑ v : Fin 32768, Ideal.exp (y (ix2 t v))) := by
  have hf : (fun v => y (ix2 t v)) = fun v => (r v : EReal) := funext hr
  have hm := mx_apply y t
  rw [hf] at hm
  rw [lse_apply]
  have e1 : (∑ v : Fin 32768, Ideal.exp (y (ix2 t v) - mx y (ix2 t (0 : Fin 1)))) = ∑ v, Ideal.exp ((r v : EReal) - mx y (ix2 t (0 : Fin 1))) :=
    Finset.sum_congr rfl fun v _ => by rw [hr v]
  have e2 : (∑ v : Fin 32768, Ideal.exp (y (ix2 t v))) = ∑ v, Ideal.exp (r v : EReal) := Finset.sum_congr rfl fun v _ => by rw [hr v]
  rw [e1, e2]
  exact LossMath.shifted (Nat.lt_of_le_of_lt (Nat.zero_le _) t.isLt |>.trans (by norm_num)) r _ hm

/-- A place that is not negative stays. -/
theorem wrapped_apply (v : IVec S1024 32) (n : BitVec 32) (t : Fin 1024) (h : (v (ix1 t)).toNat < 2 ^ 31) : wrapped v n (ix1 t) = v (ix1 t) := by
  have hc : cmpi .slt v (broadcastInDim S1024 ![] bcast_S_S1024 (constantI S_ 32 0#32)) (ix1 t) = 0#1 := by
    refine (by decide : ∀ b : BitVec 1, b ≠ 1#1 → b = 0#1) _ fun e => ?_
    have := (StableHlo.Predicate.slt_iff_toNat h (by decide : (0#32).toNat < 2 ^ 31)).mp e
    exact absurd this (by simp)
  unfold wrapped
  rw [select_apply, hc]
  rfl

/-- The label column as a vector reads the column. -/
theorem flat_apply {α : Type} (v : S1024x1.Idx → α) (t : Fin 1024) : shapeCast S1024 v shapeCasts_S1024x1_S1024 (ix1 t) = v (ix2 t (0 : Fin 1)) :=
  shapeCast_apply _ _ _ _ (by rw [Shape.rowMajor_val_one, Shape.rowMajor_val_two]; exact (Nat.add_zero _).trans (Nat.mul_one _))

/-- A vector as a column, by shape, reads the vector. -/
theorem unflat_apply {α : Type} (v : S1024.Idx → α) (t : Fin 1024) : shapeCast S1024x1 v shapeCasts_S1024_S1024x1 (ix2 t (0 : Fin 1)) = v (ix1 t) :=
  shapeCast_apply _ _ _ _ (by rw [Shape.rowMajor_val_one, Shape.rowMajor_val_two]; exact ((Nat.add_zero _).trans (Nat.mul_one _)).symm)

theorem starts_row (l : IVec S1024x1 32) (t : Fin 1024) : starts l (ix2 t (0 : Fin 2)) = BitVec.ofNat 32 t.val := by
  refine (concatenate_pair_apply_left (t := S1024x2) (s₁ := S1024x1) (s₂ := S1024x1) (1 : Fin 2) _ _ _ _ rfl (ix2 t (0 : Fin 1)) ?_).trans ?_
  · intro b
    match b with
    | ⟨0, _⟩ => rfl
    | ⟨1, _⟩ => rfl
  · rw [column_apply]
    have e : iotaInDim S1024 32 0 (ix1 t) = BitVec.ofNat 32 t.val := rfl
    rw [wrapped_apply, e]
    rw [e, BitVec.toNat_ofNat]
    omega

theorem starts_label (l : IVec S1024x1 32) (t : Fin 1024) (h : (l (ix2 t (0 : Fin 1))).toNat < 32768) :
    starts l (ix2 t (1 : Fin 2)) = l (ix2 t (0 : Fin 1)) := by
  refine (concatenate_pair_apply_right (t := S1024x2) (s₁ := S1024x1) (s₂ := S1024x1) (1 : Fin 2) _ _ _ _ rfl rfl (ix2 t (0 : Fin 1)) ?_ ?_).trans ?_
  · intro b hb
    match b with
    | ⟨0, _⟩ => rfl
    | ⟨1, _⟩ => exact absurd rfl hb
  · rfl
  · rw [column_apply, wrapped_apply, flat_apply]
    rw [flat_apply]
    omega

/-- Picking one entry of each row: the entry at the two places given, each kept inside the array. -/
theorem pick_apply (y : FVec Ideal S1024x32768 .f32) (idx : IVec S1024x2 32) (t : Fin 1024) (a : Fin 1024) (b : Fin 32768)
    (ha : min (idx (ix2 t (0 : Fin 2))).toInt.toNat 1023 = a.val) (hb : min (idx (ix2 t (1 : Fin 2))).toInt.toNat 32767 = b.val) :
    Host.gather gather_S1024x32768_S1024x2_S1024_n_01_n_n_01_1_11 y idx (ix1 t) = y (ix2 a b) := by
  have hmem : ∀ q : Fin 2, q ∈ ([0, 1] : List (Fin 2)) := by decide
  refine congrArg y (funext fun q => Fin.ext ?_)
  have hsi : ∀ c : Fin 2, gather_S1024x32768_S1024x2_S1024_n_01_n_n_01_1_11.siIdx (ix1 t) c = ix2 t c := fun c =>
    funext fun r => by
      match r with
      | ⟨0, _⟩ => rfl
      | ⟨1, _⟩ => rfl
  show gather_S1024x32768_S1024x2_S1024_n_01_n_n_01_1_11.start (ix1 t) idx q
    + gather_S1024x32768_S1024x2_S1024_n_01_n_n_01_1_11.batchCoord (ix1 t) q
    + gather_S1024x32768_S1024x2_S1024_n_01_n_n_01_1_11.offCoord (ix1 t) q = (ix2 a b q).val
  rw [GatherDims.batchCoord_eq_zero _ _ _ List.not_mem_nil,
    GatherDims.offCoord_eq_zero _ _ _ (fun h => ((GatherDims.mem_sKept _ _).mp h).1 (hmem q))]
  unfold GatherDims.start
  rw [dif_pos (show q ∈ gather_S1024x32768_S1024x2_S1024_n_01_n_n_01_1_11.startIndexMap from hmem q)]
  match q with
  | ⟨0, _⟩ => exact (congrArg (fun i => min (idx i).toInt.toNat 1023) (hsi 0)).trans ha
  | ⟨1, _⟩ => exact (congrArg (fun i => min (idx i).toInt.toNat 32767) (hsi 1)).trans hb

/-! ## The result -/

theorem refOut_split (x : FVec Ideal S1024x2048 .f32) (W : FVec Ideal S2048x32768 .f32) (l : IVec S1024x1 32) (t : Fin 1024) :
    refOut x W l (ix2 t (0 : Fin 1)) = (lse (lg x W) (ix2 t (0 : Fin 1)) : EReal)
      - Host.gather gather_S1024x32768_S1024x2_S1024_n_01_n_n_01_1_11 (lg x W) (starts l) (ix1 t) := by
  unfold refOut
  rw [unflat_apply, sub_at, flat_apply]

/-- The reference's result at a row with real logits and a label that is a column. -/
theorem refOut_apply (x : FVec Ideal S1024x2048 .f32) (W : FVec Ideal S2048x32768 .f32) (l : IVec S1024x1 32) (t : Fin 1024)
    (hr : ∀ v, ∃ r : ℝ, LossMath.logit x W t v = (r : EReal)) (q : Fin 32768) (h : (l (ix2 t (0 : Fin 1))).toNat = q.val) :
    refOut x W l (ix2 t (0 : Fin 1))
      = Ideal.log (∑ v : Fin 32768, Ideal.exp (LossMath.logit x W t v)) - LossMath.logit x W t q := by
  choose r hr using hr
  have hq := q.isLt
  have ht := t.isLt
  have e1 : min (starts l (ix2 t (0 : Fin 2))).toInt.toNat 1023 = t.val := by
    rw [starts_row, StableHlo.Predicate.toInt_ofNat_small _ (by omega)]
    exact Nat.min_eq_left (by omega)
  have e2 : min (starts l (ix2 t (1 : Fin 2))).toInt.toNat 32767 = q.val := by
    rw [starts_label l t (by omega), StableHlo.Predicate.toInt_eq_toNat_of_lt (by omega), h]
    exact Nat.min_eq_left (by omega)
  have e3 : (∑ v : Fin 32768, Ideal.exp (lg x W (ix2 t v))) = ∑ v, Ideal.exp (LossMath.logit x W t v) :=
    Finset.sum_congr rfl fun v _ => by rw [lg_apply]
  rw [refOut_split, pick_apply (lg x W) (starts l) t t q e1 e2, lse_real (lg x W) t r (fun v => (lg_apply x W t v).trans (hr v)), lg_apply, e3]

end Cert.ReferenceIdealProof

end
-- ==== Proof.Finite.lean ====
/-
The precondition, decoded: every entry of `x` and of the weight is a real, and every label is a column's number.
-/
module

public import proofs.«01_k».proof.Pre_finite_and_in_range_KernelIdeal
public import Idealize.ShloMosaic.Lib.ValueIdx
public import Idealize.ShloMosaic.Lib.IdealHost
public import Idealize.ShloMosaic.Lib.StableHlo.Predicate
public import Idealize.ShloMosaic.PureOps.Ideal.Laws

@[expose] public section

noncomputable section

namespace Cert.Finite

open Idealize.ShloMosaic Idealize.ShloMosaic.ValueIdx
open Cert.Pre_finite_and_in_range_KernelIdeal

/-- Two flags' conjunction is set when both are. -/
theorem and_one {a b : BitVec 1} : IntOp.andi a b = 1#1 ↔ a = 1#1 ∧ b = 1#1 := by
  revert a b; decide

/-- A conjunction over a finite set holds only if each member does. -/
theorem fold_and {ι : Type} [DecidableEq ι] (S : Finset ι) (f : ι → BitVec 1) (h : S.fold IntOp.andi 1#1 f = 1#1) : ∀ i ∈ S, f i = 1#1 := by
  induction S using Finset.cons_induction with
  | empty => intro i hi; exact absurd hi (Finset.notMem_empty i)
  | cons a S ha ih =>
    rw [Finset.fold_cons, and_one] at h
    intro i hi
    rcases Finset.mem_cons.mp hi with rfl | hi
    · exact h.1
    · exact ih h.2 i hi

/-- A whole array's conjunction, read at each of its entries. -/
theorem all_of_reduce {s u : Shape} {axes : List (Fin s.rank)} (x : IVec s 1) (h : s.ReducesTo axes ⟨0, ![]⟩) (hu : 0 < u.numel)
    (j : (⟨0, ![]⟩ : Shape).Idx) (e : Host.reduce IntOp.andi x (constantI u 1 1#1) h hu j = 1#1) (i : s.Idx) : x i = 1#1 := by
  classical
  rw [Host.reduce_eq_fold] at e
  exact fold_and _ x e i (Finset.mem_filter.mpr ⟨Finset.mem_univ _, funext fun a => a.elim0⟩)

/-- A number whose absolute value is below infinity is a real. -/
theorem real_of_abs_lt {a : EReal} (h : Ideal.cmp .olt (max a (-a)) ⊤ = 1#1) : ∃ r : ℝ, a = r := by
  have hlt : max a (-a) < ⊤ := by
    by_contra hn
    have e : Ideal.cmp .olt (max a (-a)) ⊤ = 0#1 := by
      unfold Ideal.cmp
      dsimp only
      rw [decide_eq_false hn]
      rfl
    rw [e] at h
    exact absurd h (by decide)
  obtain ⟨h1, h2⟩ := max_lt_iff.mp hlt
  induction a using EReal.rec with
  | bot => exact absurd h2 (by simp)
  | coe r => exact ⟨r, rfl⟩
  | top => exact absurd h1 (lt_irrefl _)

/-- A label at least 0 and below 32768, both read as signed, is a word below 32768. -/
theorem range_of_bits {w : BitVec 32} (h0 : IntOp.cmpi .sge w 0#32 = 1#1) (h1 : IntOp.cmpi .slt w 32768#32 = 1#1) : w.toNat < 32768 := by
  have a0 : (0#32).sle w = true := by
    by_contra hn
    have e : IntOp.cmpi .sge w 0#32 = 0#1 := congrArg BitVec.ofBool (Bool.eq_false_iff.mpr hn)
    rw [e] at h0
    exact absurd h0 (by decide)
  have a1 : w.slt 32768#32 = true := by
    by_contra hn
    have e : IntOp.cmpi .slt w 32768#32 = 0#1 := congrArg BitVec.ofBool (Bool.eq_false_iff.mpr hn)
    rw [e] at h1
    exact absurd h1 (by decide)
  rw [BitVec.sle_iff_toInt_le] at a0
  rw [BitVec.slt_iff_toInt_lt] at a1
  have b0 : (0#32).toInt = 0 := by decide
  have b1 : (32768#32).toInt = 32768 := by decide
  rw [b0] at a0
  rw [b1] at a1
  rw [BitVec.toInt_eq_toNat_cond] at a0 a1
  have := w.isLt
  split at a0 <;> omega

/-- The printed precondition says of `x`, the device's block of the weight and the labels: -/
theorem decode (F : Cert.Pre_finite_and_in_range_KernelIdeal.Facts) (x : FVec Ideal S1024x2048 .f32) (w : FVec Ideal S2048x16384 .f32) (l : IVec S1024x1 32)
    (h : Cert.Pre_finite_and_in_range_KernelIdeal.fn (F := Ideal) x w l = fun _ => 1#1) :
    (∀ i, ∃ r : ℝ, x i = (r : EReal)) ∧ (∀ i, ∃ r : ℝ, w i = (r : EReal)) ∧ ∀ i, (l i).toNat < 32768 := by
  have hj := congrFun h (ix0)
  unfold Cert.Pre_finite_and_in_range_KernelIdeal.fn at hj
  obtain ⟨h8, h14⟩ := and_one.mp hj
  obtain ⟨h3, h7⟩ := and_one.mp h8
  have htop : Ideal.ofBits .f32 0x7F800000#32 = ⊤ := by simp [Ideal.ofBits, Ideal.ieee]
  refine ⟨fun i => real_of_abs_lt ?_, fun i => real_of_abs_lt ?_, fun i => ?_⟩
  · have e := all_of_reduce _ _ _ _ h3 i
    rw [← htop]
    exact e
  · have e := all_of_reduce _ _ _ _ h7 i
    rw [← htop]
    exact e
  · have e := and_one.mp (all_of_reduce _ _ _ _ h14 i)
    exact range_of_bits e.1 e.2

end Cert.Finite

end
-- ==== Proof.Agree.lean ====
/-
The kernel's result is the reference's, over the extended reals, when `x` and the weight are real and every label is a column.
-/
module

public import proofs.«01_k».proof.Proof.KernelIdealValue
public import proofs.«01_k».proof.Proof.ReferenceIdealValue
public import proofs.«01_k».proof.Proof.Finite

@[expose] public section

noncomputable section

namespace Cert.Agree

open Cert.KernelIdeal Cert.KernelIdeal.Gen
open Cert.KernelIdealProof (Holds outv outv_whole mesh_x mesh_0)
open Cert.ReferenceIdealProof (refOut refOut_apply)
open Idealize.ShloMosaic Idealize.ShloMosaic.TcCoe
open Idealize.ShloMosaic.ValueIdx

variable {m : (ℓ : Loc nD τ sig) → Buf (Elt Ideal) ℓ} (ρ : Dev nD → PrngReg)
variable {X : S1024x2048.Idx → EReal} {W : (⟨2, ![2048, 32768]⟩ : Shape).Idx → EReal} {L : S1024x1.Idx → BitVec 32}

/-- The device that holds a column of the weight (the first of its eight). -/
def holder (v : Fin 32768) : Dev nD := ⟨v.val / 16384 * 8, by show _ < 16; omega⟩

/-- An entry of the whole weight, in the block of the device that holds it. -/
theorem weight_at (h : Holds m X W L) (k : Fin 2048) (v : Fin 32768) :
    m ((holder v).tc.loc main_arg1) (ix2 k (⟨v.val % 16384, Nat.mod_lt _ (by norm_num)⟩ : Fin 16384)) = W (ix2 k v) := by
  refine (congrFun (h.hw (holder v)) _).trans (congrArg W (funext fun a => Fin.ext ?_))
  match a with
  | ⟨0, _⟩ =>
    show Layout.meshLin [2, 2, 4] (holder v).val [] * 2048 + k.val = k.val
    rw [mesh_0]; omega
  | ⟨1, _⟩ =>
    show Layout.meshLin [2, 2, 4] (holder v).val [0] * 16384 + v.val % 16384 = v.val
    rw [mesh_x]; show v.val / 16384 * 8 / 8 * 16384 + v.val % 16384 = v.val; omega

/-- Real operands give real logits. -/
theorem logit_real (hX : ∀ i, ∃ r : ℝ, X i = (r : EReal)) (hW : ∀ i, ∃ r : ℝ, W i = (r : EReal)) (t : Fin 1024) (v : Fin 32768) :
    ∃ r : ℝ, LossMath.logit X W t v = (r : EReal) := by
  choose p hp using hX
  choose q hq using hW
  refine ⟨∑ k : Fin 2048, p (ix2 t k) * q (ix2 k v), ?_⟩
  unfold LossMath.logit
  rw [← LossMath.coe_sum]
  exact Finset.sum_congr rfl fun k _ => by rw [hp, hq, EReal.coe_mul]

/-- The labels' comparison picks the label's column. -/
theorem pick_label (f : Fin 32768 → EReal) (w : BitVec 32) (q : Fin 32768) (h : w.toNat = q.val) :
    (∑ v : Fin 32768, if BitVec.ofNat 32 v.val = w then f v else 0) = f q := by
  refine (Finset.sum_congr rfl fun v _ => ?_).trans (LossMath.sum_pick f q)
  have hv := v.isLt
  have hi : (BitVec.ofNat 32 v.val = w) ↔ v = q := by
    constructor
    · intro e
      have := congrArg BitVec.toNat e
      rw [BitVec.toNat_ofNat, h] at this
      exact Fin.ext (by omega)
    · rintro rfl
      exact BitVec.eq_of_toNat_eq (by rw [BitVec.toNat_ofNat, h]; omega)
  exact if_congr hi rfl rfl

/-- The two results agree. -/
theorem agree [F : Cert.Pre_finite_and_in_range_KernelIdeal.Facts] (h : Holds m X W L)
    (pre : ∀ c : Dev nD, Cert.Pre_finite_and_in_range_KernelIdeal.fn (F := Ideal)
      (m (c.tc.loc main_arg0)) (m (c.tc.loc main_arg1)) (m (c.tc.loc main_arg2)) = fun _ => 1#1) :
    outv m ρ = refOut X W L := by
  have hX : ∀ i, ∃ r : ℝ, X i = (r : EReal) := fun i => by
    have := (Cert.Finite.decode F _ _ _ (pre 0)).1 i
    rwa [h.hx 0] at this
  have hW : ∀ i, ∃ r : ℝ, W i = (r : EReal) := fun i => by
    have := (Cert.Finite.decode F _ _ _ (pre (holder (i 1)))).2.1 (ix2 (i 0) (⟨(i 1).val % 16384, Nat.mod_lt _ (by norm_num)⟩ : Fin 16384))
    obtain ⟨r, hr⟩ := this
    exact ⟨r, (congrArg W (eq_ix2 i)).trans ((weight_at h (i 0) (i 1)).symm.trans hr)⟩
  have hL : ∀ i, (L i).toNat < 32768 := fun i => by
    have := (Cert.Finite.decode F _ _ _ (pre 0)).2.2 i
    rwa [h.hl 0] at this
  funext i
  have hi : i = ix2 (i 0) (0 : Fin 1) := (eq_ix2 i).trans (congrArg (ix2 (i 0)) (Subsingleton.elim (α := Fin 1) _ _))
  generalize i 0 = t at hi
  rw [hi]
  exact (outv_whole ρ h t).trans ((congrArg (fun z : EReal => Ideal.log (∑ v : Fin 32768, Ideal.exp (LossMath.logit X W t v)) - z)
    (pick_label (LossMath.logit X W t) (L (ix2 t (0 : Fin 1))) ⟨_, hL _⟩ rfl)).trans
    (refOut_apply X W L t (logit_real hX hW t) ⟨_, hL (ix2 t (0 : Fin 1))⟩ rfl).symm)

end Cert.Agree

end
-- ==== Proof.lean ====
/-
The claims, put together from the two programs' runs, the reference's run and the value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Agree
public import Idealize.ShloMosaic.Adequacy
public import Idealize.ShloMosaic.Init

@[expose] public section

noncomputable section

namespace Cert.Proof

open Idealize.ShloMosaic Idealize.SL.Sem

theorem frame_kernel : Cert.quiescent_Kernel := by
  intro m ρ _
  exact (θ_run _ _ _).mono (fun _ h => ⟨fun c => ⟨((h.1 c).1 (0 : Fin 3)).trans (KernelProof.finalA_x m ρ c), (h.1 c).2,
    ((h.1 c).1 (1 : Fin 3)).trans (KernelProof.finalA_lab m ρ c)⟩, h.2⟩) (KernelProof.run_main (F := Bits) m ρ)

theorem frame_ideal : Cert.quiescent_KernelIdeal := by
  intro m ρ _
  exact (θ_run _ _ _).mono (fun _ h => ⟨fun c => ⟨((h.1 c).1 (0 : Fin 3)).trans (KernelIdealProof.finalA_x m ρ c), (h.1 c).2,
    ((h.1 c).1 (1 : Fin 3)).trans (KernelIdealProof.finalA_lab m ρ c)⟩, h.2⟩) (KernelIdealProof.run_main (F := Ideal) m ρ)

theorem frame_reference : Cert.quiescent_ReferenceIdeal := by
  intro m ρ _
  exact (θ_run _ _ _).mono (fun _ h => ⟨fun c => (h c).2, sem_eq_zero_of_no_sems (by decide) _⟩) (Cert.ReferenceIdeal.Value.run (F := Ideal) m ρ)

/-- What the precondition's text states, at one device's shapes. -/
theorem pre_ideal : Cert.Pre_finite_and_in_range_KernelIdeal.Facts := by
  constructor <;> decide

/-- What the precondition's text states, at the whole arrays' shapes. -/
theorem pre_reference : Cert.Pre_finite_and_in_range_ReferenceIdeal.Facts := by
  constructor <;> decide

/-- The kernel's program and the reference leave the same result, the arguments unchanged. -/
theorem value [hPre : Cert.Pre_finite_and_in_range_KernelIdeal.Facts] :
    Cert.algebraic_KernelIdeal_ReferenceIdeal_pre_finite_and_in_range_KernelIdeal := by
  intro m ρ m' ρ' pre held
  have h : KernelIdealProof.Holds m _ _ _ := ⟨fun c => (held c).1, fun c => (held c).2.1, fun c => (held c).2.2⟩
  refine ⟨_, (θ_run _ _ _).mono (fun r H c => ⟨((H.1 c).1 (2 : Fin 3)).trans ((KernelIdealProof.out_eq m ρ c).trans (Agree.agree ρ h pre)),
      ((H.1 c).1 (0 : Fin 3)).trans (KernelIdealProof.finalA_x m ρ c), (H.1 c).2,
      ((H.1 c).1 (1 : Fin 3)).trans (KernelIdealProof.finalA_lab m ρ c)⟩) (KernelIdealProof.run_main (F := Ideal) m ρ),
    (θ_run _ _ _).mono (fun r H => H 0) (Cert.ReferenceIdeal.Value.run (F := Ideal) m' ρ')⟩

theorem claim : Cert.Claim := by
  refine ⟨Cert.Kernel.Gen.facts, Cert.KernelIdeal.Gen.facts, Cert.ReferenceIdeal.Gen.facts, pre_ideal, pre_reference, frame_kernel, frame_ideal,
    (fun m ρ _ => frame_ideal m ρ trivial), frame_reference, (fun m ρ _ => frame_reference m ρ trivial), trivial, value (hPre := pre_ideal)⟩

end Cert.Proof

end
